-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16_0) = v0 c
          ∧ r.2.mem ((c.tc : Thread Cert.ReferenceIdeal.nD Cert.ReferenceIdeal.τ).loc Cert.ReferenceIdeal.main_v16_1) = v1 c
          ∧ r.2.mem ((c.tc : Thread Cert.ReferenceIdeal.nD Cert.ReferenceIdeal.τ).loc Cert.ReferenceIdeal.main_v16_2) = v2 c
          ∧ r.2.mem ((c.tc : Thread Cert.ReferenceIdeal.nD Cert.ReferenceIdeal.τ).loc Cert.ReferenceIdeal.main_v16_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x2048x1024 : Shape := ⟨3, ![24, 2048, 1024]⟩
abbrev S24x2048 : Shape := ⟨2, ![24, 2048]⟩
abbrev S24x2048x2816 : Shape := ⟨3, ![24, 2048, 2816]⟩
abbrev S24x2048x352 : Shape := ⟨3, ![24, 2048, 352]⟩
abbrev S1024x2816 : Shape := ⟨2, ![1024, 2816]⟩
abbrev S1024 : Shape := ⟨1, ![1024]⟩
abbrev S2816x1024 : Shape := ⟨2, ![2816, 1024]⟩
abbrev S49152x1024 : Shape := ⟨2, ![49152, 1024]⟩
abbrev S96x1x512 : Shape := ⟨3, ![96, 1, 512]⟩
abbrev S49152x2816 : Shape := ⟨2, ![49152, 2816]⟩
abbrev S49152x352 : Shape := ⟨2, ![49152, 352]⟩
abbrev S1x1024 : Shape := ⟨2, ![1, 1024]⟩
abbrev S512x1024 : Shape := ⟨2, ![512, 1024]⟩
abbrev S1x1x512 : Shape := ⟨3, ![1, 1, 512]⟩
abbrev S512x2816 : Shape := ⟨2, ![512, 2816]⟩
abbrev S512x352 : Shape := ⟨2, ![512, 352]⟩
abbrev S1x512 : Shape := ⟨2, ![1, 512]⟩
abbrev S1x128 : Shape := ⟨2, ![1, 128]⟩
abbrev S128x128 : Shape := ⟨2, ![128, 128]⟩
abbrev S512x128 : Shape := ⟨2, ![512, 128]⟩
abbrev S128x352 : Shape := ⟨2, ![128, 352]⟩
abbrev S128x96 : Shape := ⟨2, ![128, 96]⟩
abbrev S128x32 : Shape := ⟨2, ![128, 32]⟩
abbrev S256x1024 : Shape := ⟨2, ![256, 1024]⟩
abbrev S512x256 : Shape := ⟨2, ![512, 256]⟩
abbrev S128x128x1 : Shape := ⟨3, ![128, 128, 1]⟩
abbrev S512 : Shape := ⟨1, ![512]⟩
abbrev S512x1 : Shape := ⟨2, ![512, 1]⟩
abbrev S1x1x128 : Shape := ⟨3, ![1, 1, 128]⟩

abbrev nBuf : Space → Nat
  | .hbm => 20
  | .vmem => 23
  | .smem => 0
  | _ => 0

abbrev bufTy : (tb : Table) → Fin (tcTables nBuf tb) → BufTy
  | .hbm, ⟨0, _⟩ => ⟨S24x2048x1024, .fp8e5m2⟩
  | .hbm, ⟨1, _⟩ => ⟨S24x2048, .f32⟩
  | .hbm, ⟨2, _⟩ => ⟨S24x2048x2816, .fp8e4m3⟩
  | .hbm, ⟨3, _⟩ => ⟨S24x2048, .f32⟩
  | .hbm, ⟨4, _⟩ => ⟨S24x2048x352, .i8⟩
  | .hbm, ⟨5, _⟩ => ⟨S1024x2816, .fp8e4m3⟩
  | .hbm, ⟨6, _⟩ => ⟨S1024, .f32⟩
  | .hbm, ⟨7, _⟩ => ⟨S2816x1024, .fp8e4m3⟩
  | .hbm, ⟨8, _⟩ => ⟨S1024, .f32⟩
  | .hbm, ⟨9, _⟩ => ⟨S49152x1024, .fp8e5m2⟩
  | .hbm, ⟨10, _⟩ => ⟨S96x1x512, .f32⟩
  | .hbm, ⟨11, _⟩ => ⟨S49152x2816, .fp8e4m3⟩
  | .hbm, ⟨12, _⟩ => ⟨S96x1x512, .f32⟩
  | .hbm, ⟨13, _⟩ => ⟨S49152x352, .i8⟩
  | .hbm, ⟨14, _⟩ => ⟨S1x1024, .f32⟩
  | .hbm, ⟨15, _⟩ => ⟨S1x1024, .f32⟩
  | .hbm, ⟨16, _⟩ => ⟨S49152x1024, .bf16⟩
  | .hbm, ⟨17, _⟩ => ⟨S2816x1024, .f32⟩
  | .hbm, ⟨18, _⟩ => ⟨S49152x2816, .fp8e5m2⟩
  | .hbm, ⟨19, _⟩ => ⟨S96x1x512, .f32⟩
  | .local _ .vmem, ⟨0, _⟩ => ⟨S512x1024, .fp8e5m2⟩
  | .local _ .vmem, ⟨1, _⟩ => ⟨S512x1024, .fp8e5m2⟩
  | .local _ .vmem, ⟨2, _⟩ => ⟨S1x1x512, .f32⟩
  | .local _ .vmem, ⟨3, _⟩ => ⟨S1x1x512, .f32⟩
  | .local _ .vmem, ⟨4, _⟩ => ⟨S512x2816, .fp8e4m3⟩
  | .local _ .vmem, ⟨5, _⟩ => ⟨S512x2816, .fp8e4m3⟩
  | .local _ .vmem, ⟨6, _⟩ => ⟨S1x1x512, .f32⟩
  | .local _ .vmem, ⟨7, _⟩ => ⟨S1x1x512, .f32⟩
  | .local _ .vmem, ⟨8, _⟩ => ⟨S512x352, .i8⟩
  | .local _ .vmem, ⟨9, _⟩ => ⟨S512x352, .i8⟩
  | .local _ .vmem, ⟨10, _⟩ => ⟨S1024x2816, .fp8e4m3⟩
  | .local _ .vmem, ⟨11, _⟩ => ⟨S1x1024, .f32⟩
  | .local _ .vmem, ⟨12, _⟩ => ⟨S2816x1024, .fp8e4m3⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S2816x1024, .f32⟩
  | .local _ .vmem, ⟨17, _⟩ => ⟨S512x2816, .fp8e5m2⟩
  | .local _ .vmem, ⟨18, _⟩ => ⟨S512x2816, .fp8e5m2⟩
  | .local _ .vmem, ⟨19, _⟩ => ⟨S1x1x512, .f32⟩
  | .local _ .vmem, ⟨20, _⟩ => ⟨S1x1x512, .f32⟩
  | .local _ .vmem, ⟨21, _⟩ => ⟨S2816x1024, .bf16⟩
  | .local _ .vmem, ⟨22, _⟩ => ⟨S512x2816, .f32⟩
  | _, _ => ⟨S24x2048x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2816 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2816x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2816 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S24x2048x1024 : Shape := ⟨3, ![24, 2048, 1024]⟩
abbrev S24x2048 : Shape := ⟨2, ![24, 2048]⟩
abbrev S24x2048x2816 : Shape := ⟨3, ![24, 2048, 2816]⟩
abbrev S24x2048x352 : Shape := ⟨3, ![24, 2048, 352]⟩
abbrev S1024x2816 : Shape := ⟨2, ![1024, 2816]⟩
abbrev S1024 : Shape := ⟨1, ![1024]⟩
abbrev S2816x1024 : Shape := ⟨2, ![2816, 1024]⟩
abbrev S24x2048x352x1 : Shape := ⟨4, ![24, 2048, 352, 1]⟩
abbrev S8 : Shape := ⟨1, ![8]⟩
abbrev S1x1x1x8 : Shape := ⟨4, ![1, 1, 1, 8]⟩
abbrev S24x2048x352x8 : Shape := ⟨4, ![24, 2048, 352, 8]⟩
abbrev S_ : Shape := ⟨0, ![]⟩
abbrev S49152x1024 : Shape := ⟨2, ![49152, 1024]⟩
abbrev S49152x1 : Shape := ⟨2, ![49152, 1]⟩
abbrev S49152x2816 : Shape := ⟨2, ![49152, 2816]⟩
abbrev S1x1024 : Shape := ⟨2, ![1, 1024]⟩
abbrev S96x1x512 : Shape := ⟨3, ![96, 1, 512]⟩
abbrev S49152 : Shape := ⟨1, ![49152]⟩
abbrev S1x252 : Shape := ⟨2, ![1, 252]⟩
abbrev S49152x252 : Shape := ⟨2, ![49152, 252]⟩

abbrev nBuf : Space → Nat
  | .hbm => 30
  | .vmem => 13
  | .smem => 0
  | _ => 0

abbrev bufTy : (tb : Table) → Fin (tcTables nBuf tb) → BufTy
  | .hbm, ⟨0, _⟩ => ⟨S24x2048x1024, .fp8e5m2⟩
  | .hbm, ⟨1, _⟩ => ⟨S24x2048, .f32⟩
  | .hbm, ⟨2, _⟩ => ⟨S24x2048x2816, .fp8e4m3⟩
  | .hbm, ⟨3, _⟩ => ⟨S24x2048, .f32⟩
  | .hbm, ⟨4, _⟩ => ⟨S24x2048x352, .i8⟩
  | .hbm, ⟨5, _⟩ => ⟨S1024x2816, .fp8e4m3⟩
  | .hbm, ⟨6, _⟩ => ⟨S1024, .f32⟩
  | .hbm, ⟨7, _⟩ => ⟨S2816x1024, .fp8e4m3⟩
  | .hbm, ⟨8, _⟩ => ⟨S1024, .f32⟩
  | .hbm, ⟨9, _⟩ => ⟨S24x2048x352, .i32⟩
  | .hbm, ⟨10, _⟩ => ⟨S24x2048x352x1, .i32⟩
  | .hbm, ⟨11, _⟩ => ⟨S8, .i32⟩
  | .hbm, ⟨12, _⟩ => ⟨S1x1x1x8, .i32⟩
  | .hbm, ⟨13, _⟩ => ⟨S24x2048x352x8, .i32⟩
  | .hbm, ⟨14, _⟩ => ⟨S24x2048x352x8, .i32⟩
  | .hbm, ⟨15, _⟩ => ⟨S24x2048x352x8, .i32⟩
  | .hbm, ⟨16, _⟩ => ⟨S_, .i32⟩
  | .hbm, ⟨17, _⟩ => ⟨S24x2048x352x8, .i32⟩
  | .hbm, ⟨18, _⟩ => ⟨S24x2048x352x8, .i32⟩
  | .hbm, ⟨19, _⟩ => ⟨S49152x1024, .fp8e5m2⟩
  | .hbm, ⟨20, _⟩ => ⟨S49152x1, .f32⟩
  | .hbm, ⟨21, _⟩ => ⟨S49152x2816, .fp8e4m3⟩
  | .hbm, ⟨22, _⟩ => ⟨S49152x1, .f32⟩
  | .hbm, ⟨23, _⟩ => ⟨S49152x2816, .i32⟩
  | .hbm, ⟨24, _⟩ => ⟨S1x1024, .f32⟩
  | .hbm, ⟨25, _⟩ => ⟨S1x1024, .f32⟩
  | .hbm, ⟨26, _⟩ => ⟨S49152x1024, .bf16⟩
  | .hbm, ⟨27, _⟩ => ⟨S2816x1024, .f32⟩
  | .hbm, ⟨28, _⟩ => ⟨S49152x2816, .fp8e5m2⟩
  | .hbm, ⟨29, _⟩ => ⟨S96x1x512, .f32⟩
  | .local _ .vmem, ⟨0, _⟩ => ⟨S49152x1024, .fp8e5m2⟩
  | .local _ .vmem, ⟨1, _⟩ => ⟨S49152x1, .f32⟩
  | .local _ .vmem, ⟨2, _⟩ => ⟨S49152x2816, .fp8e4m3⟩
  | .local _ .vmem, ⟨3, _⟩ => ⟨S49152x1, .f32⟩
  | .local _ .vmem, ⟨4, _⟩ => ⟨S49152x2816, .i32⟩
  | .local _ .vmem, ⟨5, _⟩ => ⟨S1024x2816, .fp8e4m3⟩
  | .local _ .vmem, ⟨6, _⟩ => ⟨S1x1024, .f32⟩
  | .local _ .vmem, ⟨7, _⟩ => ⟨S2816x1024, .fp8e4m3⟩
  | .local _ .vmem, ⟨8, _⟩ => ⟨S1x1024, .f32⟩
  | .local _ .vmem, ⟨9, _⟩ => ⟨S49152x1024, .bf16⟩
  | .local _ .vmem, ⟨10, _⟩ => ⟨S2816x1024, .f32⟩
  | .local _ .vmem, ⟨11, _⟩ => ⟨S49152x2816, .fp8e5m2⟩
  | .local _ .vmem, ⟨12, _⟩ => ⟨S96x1x512, .f32⟩
  | _, _ => ⟨S24x2048x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S49152x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S49152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S49152x2816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S49152x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S49152x2816 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2816 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2816x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S49152x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2816x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S49152x2816 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S96x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Row.lean ====
/-
  ONE TOKEN'S ROW: the mathematics of the quantised backward step, on extended reals, with no kernel in sight.

  A token's masked gradient is `dh`; its largest magnitude, times 1/57344, is `peak`; `level` counts the powers of two
  from 2^-126 to 2^125 that do not exceed the peak; the power-of-two scale, its inverse and the clipped codes follow.
  The last part is the binary search for `level`: eight comparisons against powers of two, spelled by their bit patterns.
-/
module

public import Idealize.ShloMosaic.PureOps.Ideal
public import Mathlib.Tactic.NormNum
public import Mathlib.Tactic.Positivity
public import Mathlib.Data.EReal.Basic

@[expose] public section

namespace Cert.Row

open Idealize.ShloMosaic

/-- The masked gradient of the hidden layer at feature `f`, from a token's row of `dy`, its scale, its mask bytes and the weights. -/
noncomputable def dh (dy : Fin 1024 → EReal) (s : EReal) (mk : Fin 352 → BitVec 8) (w : Fin 2816 → Fin 1024 → EReal)
    (f : Fin 2816) : EReal :=
  if (mk ⟨f.val / 8, by omega⟩).getLsbD (f.val % 8) = true then (∑ d, dy d * w f d) * s else 0

/-- The magnitude of an extended real. -/
noncomputable def mag (v : EReal) : EReal := max v (-v)

theorem mag_nonneg (v : EReal) : 0 ≤ mag v := by
  rcases le_total 0 v with h | h
  · exact le_max_of_le_left h
  · exact le_max_of_le_right (EReal.neg_nonneg.mpr h)

/-- The largest magnitude in a row, times (the f32 nearest to) 1/57344. -/
noncomputable def peak (v : Fin 2816 → EReal) : EReal :=
  (Finset.univ : Finset (Fin 2816)).sup (fun f => mag (v f)) * Ideal.ofBits .f32 0x37924925#32

/-- `2^e` as an extended real. -/
noncomputable def pow (e : ℤ) : EReal := (((2 : ℝ) ^ e : ℝ) : EReal)

theorem pow_le_pow {a b : ℤ} : pow a ≤ pow b ↔ a ≤ b := by
  simp only [pow, EReal.coe_le_coe_iff]
  exact zpow_le_zpow_iff_right₀ (by norm_num)

/-- How many of the 252 powers `2^-126 … 2^125` are at most `x`. -/
noncomputable def level (x : EReal) : ℕ :=
  ((Finset.univ : Finset (Fin 252)).filter (fun j => pow ((j.val : ℤ) - 126) ≤ x)).card

theorem level_le (x : EReal) : level x ≤ 252 := (Finset.card_filter_le _ _).trans (by simp)

/-- `level` counts an initial segment: it is below `k` exactly when `x` is below the `k`-th power. -/
theorem level_lt_iff (x : EReal) (k : ℕ) (h1 : 1 ≤ k) (h2 : k ≤ 252) : level x < k ↔ x < pow ((k : ℤ) - 127) := by
  constructor
  · intro h
    by_contra hx
    have hx : pow ((k : ℤ) - 127) ≤ x := not_lt.mp hx
    have hsub : (Finset.univ : Finset (Fin k)).map (Fin.castLEEmb h2) ⊆
        (Finset.univ : Finset (Fin 252)).filter (fun j => pow ((j.val : ℤ) - 126) ≤ x) := by
      intro j hj
      obtain ⟨i, _, rfl⟩ := Finset.mem_map.mp hj
      refine Finset.mem_filter.mpr ⟨Finset.mem_univ _, (pow_le_pow.mpr ?_).trans hx⟩
      have := i.isLt
      simp only [Fin.castLEEmb_apply, Fin.val_castLE]
      omega
    have := Finset.card_le_card hsub
    simp only [Finset.card_map, Finset.card_univ, Fintype.card_fin] at this
    exact absurd h (not_lt.mpr this)
  · intro hx
    have hsub : (Finset.univ : Finset (Fin 252)).filter (fun j => pow ((j.val : ℤ) - 126) ≤ x) ⊆
        (Finset.univ : Finset (Fin (k - 1))).map (Fin.castLEEmb (by omega)) := by
      intro j hj
      have hj := (Finset.mem_filter.mp hj).2
      have hlt : (j.val : ℤ) - 126 < (k : ℤ) - 127 := by
        by_contra hc
        exact absurd (hj.trans_lt hx) (not_lt.mpr (pow_le_pow.mpr (not_lt.mp hc)))
      exact Finset.mem_map.mpr ⟨⟨j.val, by omega⟩, Finset.mem_univ _, rfl⟩
    have := Finset.card_le_card hsub
    simp only [Finset.card_map, Finset.card_univ, Fintype.card_fin] at this
    exact lt_of_le_of_lt this (by omega)

/-- The exponent of the scale: zero for a peak below every power. -/
noncomputable def expo (x : EReal) : ℤ := if level x = 0 then 0 else (level x : ℤ) - 126

/-- The token's scale and its inverse. -/
noncomputable def scale (x : EReal) : EReal := pow (expo x)
noncomputable def inv (x : EReal) : EReal := pow (-expo x)

/-- A value times the inverse scale, clipped to ±57344. -/
noncomputable def code (v i : EReal) : EReal :=
  min (Ideal.ofBits .f32 0x47600000#32) (max (Ideal.ofBits .f32 0xC7600000#32) (v * i))

/-! ## Powers of two by their bit patterns -/

theorem ofBits_pow (k : ℕ) (h1 : 1 ≤ k) (h2 : k ≤ 254) :
    Ideal.ofBits .f32 (BitVec.ofNat 32 k <<< 23) = pow ((k : ℤ) - 127) := by
  have e1 : (BitVec.ofNat 32 k <<< 23).extractLsb' (8 + 23) 1 = 0#1 := by
    have : ∀ k : Fin 255, (BitVec.ofNat 32 k.val <<< 23).extractLsb' (8 + 23) 1 = 0#1 := by decide +kernel
    exact this ⟨k, by omega⟩
  have e2 : ((BitVec.ofNat 32 k <<< 23).extractLsb' 23 8).toNat = k := by
    have : ∀ k : Fin 255, ((BitVec.ofNat 32 k.val <<< 23).extractLsb' 23 8).toNat = k.val := by decide +kernel
    exact this ⟨k, by omega⟩
  have e3 : ((BitVec.ofNat 32 k <<< 23).extractLsb' 0 23).toNat = 0 := by
    have : ∀ k : Fin 255, ((BitVec.ofNat 32 k.val <<< 23).extractLsb' 0 23).toNat = 0 := by decide +kernel
    exact this ⟨k, by omega⟩
  have hk1 : ¬ k = 2 ^ 8 - 1 := by omega
  have hk2 : ¬ k = 0 := by omega
  show Ideal.ieee 8 23 _ = _
  generalize BitVec.ofNat 32 k <<< 23 = b at e1 e2 e3 ⊢
  unfold Ideal.ieee
  simp only [e1, e2, e3, hk1, hk2, if_false]
  unfold pow
  congr 1
  have : ((2 ^ 23 + 0 : ℕ) : ℝ) = (2 : ℝ) ^ (23 : ℤ) := by norm_num
  rw [this, show ((0#1 : BitVec 1) == 1#1) = false from rfl]
  simp only [Bool.false_eq_true, if_false, one_mul]
  rw [← zpow_add₀ (by norm_num : (2 : ℝ) ≠ 0)]
  congr 1
  push_cast
  ring

/-! ## The binary search -/

/-- One step: keep `b`, or move up by `s` when the power whose pattern is `(b + s) <<< 23` does not exceed `x`. -/
noncomputable def step (x : EReal) (s b : BitVec 32) : BitVec 32 :=
  if x < Ideal.ofBits .f32 ((b + s) <<< 23) then b else b + s

/-- The eight steps. -/
noncomputable def search (x : EReal) : BitVec 32 :=
  step x 1#32 (step x 2#32 (step x 4#32 (step x 8#32 (step x 16#32 (step x 32#32 (step x 63#32 (step x 126#32 0#32)))))))

/-- The same step on numbers, against a level known in advance. -/
def stepN (n s b : ℕ) : ℕ := if n < b + s then b else b + s

theorem step_ofNat (x : EReal) (s b : ℕ) (h1 : 1 ≤ s) (h2 : b + s ≤ 252) :
    step x (BitVec.ofNat 32 s) (BitVec.ofNat 32 b) = BitVec.ofNat 32 (stepN (level x) s b) := by
  unfold step stepN
  rw [← BitVec.ofNat_add, ofBits_pow (b + s) (by omega) (by omega)]
  by_cases h : level x < b + s
  · rw [if_pos h, if_pos ((level_lt_iff x _ (by omega) h2).mp h)]
  · rw [if_neg h, if_neg (fun hc => h ((level_lt_iff x _ (by omega) h2).mpr hc))]

theorem stepN_le (n s b c : ℕ) (h : b ≤ c) : stepN n s b ≤ c + s := by unfold stepN; split <;> omega

theorem stepN_search : ∀ n : Fin 253,
    stepN n 1 (stepN n 2 (stepN n 4 (stepN n 8 (stepN n 16 (stepN n 32 (stepN n 63 (stepN n 126 0))))))) = n.val := by
  decide +kernel

/-- Eight comparisons find the level. -/
theorem search_eq (x : EReal) : search x = BitVec.ofNat 32 (level x) := by
  unfold search
  have b1 := stepN_le (level x) 126 0 0 le_rfl
  have b2 := stepN_le (level x) 63 _ _ b1
  have b3 := stepN_le (level x) 32 _ _ b2
  have b4 := stepN_le (level x) 16 _ _ b3
  have b5 := stepN_le (level x) 8 _ _ b4
  have b6 := stepN_le (level x) 4 _ _ b5
  have b7 := stepN_le (level x) 2 _ _ b6
  rw [step_ofNat x 126 0 (by omega) (by omega), step_ofNat x 63 _ (by omega) (by omega),
    step_ofNat x 32 _ (by omega) (by omega), step_ofNat x 16 _ (by omega) (by omega),
    step_ofNat x 8 _ (by omega) (by omega), step_ofNat x 4 _ (by omega) (by omega),
    step_ofNat x 2 _ (by omega) (by omega), step_ofNat x 1 _ (by omega) (by omega)]
  rw [stepN_search ⟨level x, by have := level_le x; omega⟩]

/-- The exponent the search gives, as a word. -/
noncomputable def word (x : EReal) : BitVec 32 := if search x = 0#32 then 0#32 else search x - 126#32

/-- The pattern built from `word + 127` is the scale. -/
theorem scale_eq (x : EReal) : Ideal.ofBits .f32 ((word x + 127#32) <<< 23) = scale x := by
  have hl := level_le x
  unfold word scale expo
  rw [search_eq]
  by_cases h : level x = 0
  · rw [h, if_pos rfl, if_pos rfl]
    exact ofBits_pow 127 (by omega) (by omega)
  · have hne : BitVec.ofNat 32 (level x) ≠ 0#32 := fun e => h (by
      have := congrArg BitVec.toNat e
      simp only [BitVec.toNat_ofNat, Nat.zero_mod] at this
      omega)
    rw [if_neg hne, if_neg h]
    have : BitVec.ofNat 32 (level x) - 126#32 + 127#32 = BitVec.ofNat 32 (level x + 1) := by
      rw [BitVec.ofNat_add]
      generalize BitVec.ofNat 32 (level x) = y
      apply BitVec.eq_of_toNat_eq
      simp only [BitVec.toNat_add, BitVec.toNat_sub, BitVec.toNat_ofNat]
      omega
    rw [this, ofBits_pow _ (by omega) (by omega)]
    congr 1
    push_cast
    omega

/-- The pattern built from `127 - word` is the inverse scale. -/
theorem inv_eq (x : EReal) : Ideal.ofBits .f32 ((127#32 - word x) <<< 23) = inv x := by
  have hl := level_le x
  unfold word inv expo
  rw [search_eq]
  by_cases h : level x = 0
  · rw [h, if_pos rfl, if_pos rfl]
    exact ofBits_pow 127 (by omega) (by omega)
  · have hne : BitVec.ofNat 32 (level x) ≠ 0#32 := fun e => h (by
      have := congrArg BitVec.toNat e
      simp only [BitVec.toNat_ofNat, Nat.zero_mod] at this
      omega)
    rw [if_neg hne, if_neg h]
    have : 127#32 - (BitVec.ofNat 32 (level x) - 126#32) = BitVec.ofNat 32 (253 - level x) := by
      apply BitVec.eq_of_toNat_eq
      simp only [BitVec.toNat_sub, BitVec.toNat_ofNat]
      omega
    rw [this, ofBits_pow _ (by omega) (by omega)]
    congr 1
    omega

end Cert.Row
-- ==== Proof.Gate.lean ====
/-
  THE MASK, one chunk of 128 features at a time. The mask bytes of four tokens are read as one 32-bit word per column; a
  gather lines up, for each of 128 lanes, the word whose bytes hold that lane's bits; a shift and a mask with 0x01010101
  leave one bit in each byte; and reading the word as four bytes again gives one byte per token. `gate_iff`: the byte is
  nonzero exactly when the token's mask bit of that feature is set.
-/
module

public import proofs.«01_k».proof.Proof.Gen.KernelIdeal.Skeleton
public import Idealize.ShloMosaic.Lib.Pointwise
public import Idealize.ShloMosaic.Lib.Pointwise.IndexBridge
public import Idealize.ShloMosaic.Lib.BitcastFour

@[expose] public section

namespace Cert.KernelIdeal.Block

open Idealize.ShloMosaic Idealize.SL.Sem Cert.KernelIdeal.Gen

/-- A 32-bit word per four rows, read as bytes again: bit `s` of row `p` is bit `8 (p % 4) + s` of word `p / 4`. -/
theorem byte_getLsbD (v : IVec S128x128 32) (p : Fin 512) (l : Fin 128) (s : ℕ) (hs : s < 8) :
    (bitcast S512x128 8 v bitcasts_S128x128_w32_S512x128_w8 (ix2 p l)).getLsbD s
      = (v (ix2 ⟨p.val / 4, by omega⟩ l)).getLsbD (8 * (p.val % 4) + s) := by
  rw [bitcast_getLsbD v bitcasts_S128x128_w32_S512x128_w8 (ix2 p l) s hs (by decide)]
  have hrow : S512x128.row (ix2 p l) = p.val := rfl
  have e2 : (S512x128.row (ix2 p l) * 8 + s) % 32 = 8 * (p.val % 4) + s := by rw [hrow]; omega
  have e1 : (S512x128.row (ix2 p l) * 8 + s) / 32 = p.val / 4 := by rw [hrow]; omega
  rw [e2]
  congr 2
  funext c
  match c with
  | ⟨0, _⟩ =>
    exact Fin.ext ((bitcasts_S128x128_w32_S512x128_w8.srcIdx_row _ _ _ ⟨0, Nat.zero_lt_two⟩ rfl).trans e1)
  | ⟨1, _⟩ =>
    exact Fin.ext (bitcasts_S128x128_w32_S512x128_w8.srcIdx_other _ _ _ ⟨1, Nat.one_lt_two⟩ (by show ¬ 1 + 2 = 2; omega))

/-- The words of the mask: bit `8 b + s` of word `a` of a column is bit `s` of row `4 a + b`. -/
theorem pay9_getLsbD (x4 : IVec S512x352 8) (p : Fin 512) (c : Fin 352) (s : ℕ) (hs : s < 8) :
    (k0_pay9 (k0_pay8 (F := Ideal) x4) (ix2 ⟨p.val / 4, by omega⟩ c)).getLsbD (8 * (p.val % 4) + s) = (x4 (ix2 p c)).getLsbD s := by
  pointwise [k0_pay9, k0_pay8]
  rw [ix2_eq_valueIdx, bitcast_8_32_getLsbD_ix2 x4 _ _ _ (8 * (p.val % 4) + s) (by omega) p (by simp only; omega),
    ix2_eq_valueIdx]
  congr 1
  omega

/-- A word shifted right by an amount below 32, as the vector unit does it. -/
theorem vector_shr (w : BitVec 32) (n : ℕ) (hn : n < 32) : IntOp.shrui .vector w (BitVec.ofNat 32 n) = w >>> n := by
  have hs : (BitVec.ofNat 32 n).toNat = n := by rw [BitVec.toNat_ofNat]; exact Nat.mod_eq_of_lt (by omega)
  simp only [IntOp.shrui, hs, BitVec.ushiftRight_eq', hn, if_true]

/-- The gather's lane: `16 k` plus the lane over eight. -/
noncomputable def lanes (k : BitVec 32) : IVec S128x128 32 := addi k0_pay14 (broadcast S128x128 k)

/-- One chunk's mask, as the kernel computes it from the words and the gather's lanes. -/
noncomputable def gate (src idx : IVec S128x128 32) : IVec S512x128 1 :=
  cmpi .ne
    (extsi 32
      (bitcast S512x128 8
        (andi
          (shrui
            (dynamicGather 1 src
              (shapeCast S128x128
                (shapeCast S128x128x1
                  (select (cmpi .slt idx (broadcast S128x128 0#32)) (addi idx (broadcast S128x128 128#32)) idx)
                  shapeCasts_S128x128_S128x128x1)
                shapeCasts_S128x128x1_S128x128))
            k0_pay13)
          (broadcast S128x128 16843009#32))
        bitcasts_S128x128_w32_S512x128_w8)
      natLt_8_32)
    (broadcast S512x128 0#32)

theorem shift_eq : ∀ l : Fin 128, IntOp.andi (BitVec.ofNat 32 l.val) 7#32 = BitVec.ofNat 32 (l.val % 8) := by decide +kernel

theorem pay13_apply (a l : Fin 128) : k0_pay13 (ix2 a l) = BitVec.ofNat 32 (l.val % 8) := by
  pointwise [k0_pay13]
  exact shift_eq l

theorem lane_eq : ∀ (k : Fin 8) (l : Fin 128),
    (Scalar.select (IntOp.cmpi .slt (IntOp.addi (IntOp.shrsi .vector (BitVec.ofNat 32 l.val) 3#32) (BitVec.ofNat 32 (16 * k.val))) 0#32)
      (IntOp.addi (IntOp.addi (IntOp.shrsi .vector (BitVec.ofNat 32 l.val) 3#32) (BitVec.ofNat 32 (16 * k.val))) 128#32)
      (IntOp.addi (IntOp.shrsi .vector (BitVec.ofNat 32 l.val) 3#32) (BitVec.ofNat 32 (16 * k.val)))).toNat % 128
        = 16 * k.val + l.val / 8 := by decide +kernel

/-- Bits of 0x01010101. -/
theorem ones_getLsbD : ∀ (b : Fin 4) (s : Fin 8), (16843009#32).getLsbD (8 * b.val + s.val) = decide (s.val = 0) := by decide

/-- A byte whose bits above the lowest are clear is nonzero, sign-extended, exactly when its lowest bit is set. -/
theorem byte_ne : ∀ y : BitVec 8, (∀ s : Fin 8, s.val ≠ 0 → y.getLsbD s.val = false) →
    ((IntOp.cmpi .ne (y.signExtend 32) 0#32 = 1#1) ↔ y.getLsbD 0 = true) := by decide +kernel

/-- Of a byte of the chunk's mask only the lowest bit can be set, and it is the gathered word's bit. -/
theorem gate_byte (src : IVec S128x128 32) (k : Fin 8) (p : Fin 512) (l : Fin 128) (s : Fin 8) :
    (bitcast S512x128 8
      (andi
        (shrui
          (dynamicGather 1 src
            (shapeCast S128x128
              (shapeCast S128x128x1
                (select (cmpi .slt (lanes (BitVec.ofNat 32 (16 * k.val))) (broadcast S128x128 0#32))
                  (addi (lanes (BitVec.ofNat 32 (16 * k.val))) (broadcast S128x128 128#32))
                  (lanes (BitVec.ofNat 32 (16 * k.val))))
                shapeCasts_S128x128_S128x128x1)
              shapeCasts_S128x128x1_S128x128))
          k0_pay13)
        (broadcast S128x128 16843009#32))
      bitcasts_S128x128_w32_S512x128_w8 (ix2 p l)).getLsbD s.val
      = ((src (ix2 ⟨p.val / 4, by omega⟩ ⟨16 * k.val + l.val / 8, by omega⟩)).getLsbD (l.val % 8 + (8 * (p.val % 4) + s.val))
          && decide (s.val = 0)) := by
  rw [byte_getLsbD _ _ _ _ s.isLt]
  pointwise [k0_pay14, lanes]
  have hl := lane_eq k l
  rw [pay13_apply, vector_shr _ _ (by omega)]
  simp only [IntOp.andi, BitVec.getLsbD_and, BitVec.getLsbD_ushiftRight, hl]
  rw [ones_getLsbD ⟨p.val % 4, by omega⟩ s]

/-- A chunk's mask is set exactly at the set bits of the gathered words. -/
theorem gate_iff (src : IVec S128x128 32) (k : Fin 8) (p : Fin 512) (l : Fin 128) :
    gate src (lanes (BitVec.ofNat 32 (16 * k.val))) (ix2 p l) = 1#1 ↔
      (src (ix2 ⟨p.val / 4, by omega⟩ ⟨16 * k.val + l.val / 8, by omega⟩)).getLsbD (8 * (p.val % 4) + l.val % 8) = true := by
  unfold gate
  refine (byte_ne _ (fun s hs => ?_)).trans ?_
  · rw [gate_byte src k p l s, decide_eq_false hs, Bool.and_false]
  · rw [show ∀ b : BitVec 8, b.getLsbD 0 = b.getLsbD (0 : Fin 8).val from fun _ => rfl, gate_byte src k p l 0]
    simp [Nat.add_comm]

end Cert.KernelIdeal.Block
-- ==== Proof.Chunk.lean ====
/-
  ONE CHUNK of the masked gradient. A block of 512 tokens is worked on 128 features at a time: `chunk j` is features
  `128 j … 128 j + 127` of `dhBlock`, the block's masked gradient as the mathematics has it. `chunk_even` and `chunk_odd`
  say that the kernel's select of a product under the unpacked mask is that chunk, taken from the first or the second half
  of a 256-feature product.
-/
module

public import proofs.«01_k».proof.Proof.Row
public import proofs.«01_k».proof.Proof.Gate
public import Idealize.ShloMosaic.Lib.Pipeline.ValueKit

@[expose] public section

namespace Cert.KernelIdeal.Block

open Idealize.ShloMosaic Idealize.SL.Sem Cert.KernelIdeal.Gen

variable (x0 : Vec Ideal S512x1024 .fp8e5m2) (x1 : Vec Ideal S1x1x512 .f32) (x4 : Vec Ideal S512x352 .i8)
  (w : Vec Ideal S2816x1024 .bf16)

/-- The masked gradient of the block's token `p`. -/
noncomputable def dhBlock (p : Fin 512) : Fin 2816 → EReal :=
  Row.dh (fun d => x0 (ix2 p d)) (x1 (ix3 0 0 p)) (fun b => x4 (ix2 p b)) (fun f d => w (ix2 f d))

/-- Features `128 j …` of the block's masked gradient. -/
noncomputable def chunk (j : ℕ) : FVec Ideal S512x128 .f32 := fun y =>
  if h : 128 * j + (y 1).val < 2816 then dhBlock x0 x1 x4 w (y 0) ⟨128 * j + (y 1).val, h⟩ else 0

/-- The token's scale in every lane. -/
theorem pay5_apply (p : Fin 512) (l : Fin 128) : k0_pay5 (F := Ideal) x1 (ix2 p l) = x1 (ix3 0 0 p) := by
  have hp := p.isLt
  pointwise [k0_pay5]
  split
  · rfl
  · split
    · congr 2; apply Fin.ext; simp only; omega
    · split
      · congr 2; apply Fin.ext; simp only; omega
      · congr 2; apply Fin.ext; simp only; omega

/-- A 256-feature product. -/
theorem pay15_apply (v : Vec Ideal S256x1024 .bf16) (p : Fin 512) (c : Fin 256) :
    k0_pay15 (F := Ideal) (k0_pay7 (F := Ideal) x0) v (ix2 p c)
      = ∑ d : Fin 1024, (x0 (ix2 p d) : EReal) * (v (ix2 c d) : EReal) := by
  pointwise [k0_pay15, k0_pay7]

/-- The mask words of the features `1024 q …`, for `q` = 0, 1, 2. -/
noncomputable def words (q : Fin 3) : IVec S128x128 32 :=
  match q with
  | 0 => k0_pay10 (k0_pay8 (F := Ideal) x4)
  | 1 => k0_pay11 (k0_pay8 (F := Ideal) x4)
  | 2 => k0_pay12 (k0_pay8 (F := Ideal) x4)

theorem words_getLsbD (q : Fin 3) (p : Fin 512) (c : Fin 128) (h : 128 * q.val + c.val < 352) (s : ℕ) (hs : s < 8) :
    (words x4 q (ix2 ⟨p.val / 4, by omega⟩ c)).getLsbD (8 * (p.val % 4) + s)
      = (x4 (ix2 p ⟨128 * q.val + c.val, h⟩)).getLsbD s := by
  match q, h with
  | 0, h =>
    rw [← pay9_getLsbD x4 p _ s hs]
    unfold words
    pointwise [k0_pay10]
  | 1, h =>
    rw [← pay9_getLsbD x4 p _ s hs]
    unfold words
    pointwise [k0_pay11]
  | 2, h =>
    rw [← pay9_getLsbD x4 p _ s hs]
    have hc : c.val < 96 := by simp only [Fin.val_two] at h; omega
    unfold words
    pointwise [k0_pay12]
    rw [dif_pos hc]

/-- Where a chunk's mask is set. -/
theorem gate_words (q : Fin 3) (k : Fin 8) (p : Fin 512) (l : Fin 128) (h : 128 * (8 * q.val + k.val) + l.val < 2816) :
    gate (words x4 q) (lanes (BitVec.ofNat 32 (16 * k.val))) (ix2 p l) = 1#1 ↔
      (x4 (ix2 p ⟨(128 * (8 * q.val + k.val) + l.val) / 8, by omega⟩)).getLsbD ((128 * (8 * q.val + k.val) + l.val) % 8) = true := by
  rw [gate_iff, words_getLsbD x4 q p _ (by simp only; omega) _ (by omega)]
  have e1 : (⟨128 * q.val + (16 * k.val + l.val / 8), by omega⟩ : Fin 352)
      = ⟨(128 * (8 * q.val + k.val) + l.val) / 8, by omega⟩ := Fin.ext (by simp only; omega)
  have e2 : l.val % 8 = (128 * (8 * q.val + k.val) + l.val) % 8 := by omega
  simp only [e1]
  rw [← e2]

variable (off : Fin 2 → ℕ) (inb : ∀ a, off a + S256x1024.size a ≤ S2816x1024.size a)

/-- The 256 rows of the weights at row `256 m`. -/
theorem ld_apply (m : ℕ) (hoff : off = ![256 * m, 0]) (c : Fin 256) (d : Fin 1024) (h : 256 * m + c.val < 2816) :
    View.ld (Val := Elt Ideal) (e' := .bf16) w (Rect.unit (s := S2816x1024) off S256x1024.size inb) (ix2 c d) = w (ix2 ⟨256 * m + c.val, h⟩ d) := by
  subst hoff
  refine View.ld_unit_apply_of w _ _ _ _ _ fun a => ?_
  match a with
  | ⟨0, _⟩ => rfl
  | ⟨1, _⟩ => exact (Nat.zero_add _).symm

/-- A select of a scaled product under the unpacked mask is a chunk of the masked gradient. -/
theorem chunk_core (q : Fin 3) (k : Fin 8) (j : ℕ) (hj : 8 * q.val + k.val = j) (hlt : j < 22) (g : FVec Ideal S512x128 .f32)
    (hg : ∀ (p : Fin 512) (l : Fin 128) (h : 128 * j + l.val < 2816),
      g (ix2 p l) = ∑ d : Fin 1024, (x0 (ix2 p d) : EReal) * (w (ix2 ⟨128 * j + l.val, h⟩ d) : EReal)) :
    select (gate (words x4 q) (lanes (BitVec.ofNat 32 (16 * k.val)))) (mulf g (k0_pay5 (F := Ideal) x1))
      (broadcast S512x128 (Scalar.ofBits (F := Ideal) .f32 0x00000000#32))
    = chunk x0 x1 x4 w j := by
  funext y
  obtain ⟨p, l, rfl⟩ : ∃ (p : Fin 512) (l : Fin 128), y = ix2 p l := ⟨y 0, y 1, eq_ix2 y⟩
  have hl : 128 * j + l.val < 2816 := by omega
  have hw := gate_words x4 q k p l (by omega)
  simp only [hj] at hw
  pointwise
  rw [pay5_apply, hg p l hl]
  have hc : chunk x0 x1 x4 w j (ix2 p l) = dhBlock x0 x1 x4 w p ⟨128 * j + l.val, hl⟩ := dif_pos hl
  rw [hc]
  unfold dhBlock Row.dh
  simp only
  by_cases hb : gate (words x4 q) (lanes (BitVec.ofNat 32 (16 * k.val))) (ix2 p l) = 1#1
  · rw [if_pos (hw.mp hb)]
    exact if_pos hb
  · rw [if_neg (fun h => hb (hw.mpr h))]
    exact if_neg hb

theorem chunk_even (q : Fin 3) (k : Fin 8) (m j : ℕ) (hoff : off = ![256 * m, 0]) (hj : 8 * q.val + k.val = j)
    (hm : j = 2 * m) (hlt : j < 22) :
    select (gate (words x4 q) (lanes (BitVec.ofNat 32 (16 * k.val))))
      (mulf (extractStridedSlice S512x128 ![0, 0]
          (k0_pay15 (F := Ideal) (k0_pay7 (F := Ideal) x0)
            (View.ld (Val := Elt Ideal) (e' := .bf16) w (Rect.unit (s := S2816x1024) off S256x1024.size inb)))
          slices_S512x256_o0_0_S512x128) (k0_pay5 (F := Ideal) x1))
      (broadcast S512x128 (Scalar.ofBits (F := Ideal) .f32 0x00000000#32))
    = chunk x0 x1 x4 w j := by
  refine chunk_core x0 x1 x4 w q k j hj hlt _ fun p l h => ?_
  pointwise
  rw [pay15_apply]
  refine Finset.sum_congr rfl fun d _ => ?_
  rw [ld_apply w off inb m hoff _ _ (by simp only; omega)]
  congr 3
  apply Fin.ext
  simp only
  omega

theorem chunk_odd (q : Fin 3) (k : Fin 8) (m j : ℕ) (hoff : off = ![256 * m, 0]) (hj : 8 * q.val + k.val = j)
    (hm : j = 2 * m + 1) (hlt : j < 22) :
    select (gate (words x4 q) (lanes (BitVec.ofNat 32 (16 * k.val))))
      (mulf (extractStridedSlice S512x128 ![0, 128]
          (k0_pay15 (F := Ideal) (k0_pay7 (F := Ideal) x0)
            (View.ld (Val := Elt Ideal) (e' := .bf16) w (Rect.unit (s := S2816x1024) off S256x1024.size inb)))
          slices_S512x256_o0_128_S512x128) (k0_pay5 (F := Ideal) x1))
      (broadcast S512x128 (Scalar.ofBits (F := Ideal) .f32 0x00000000#32))
    = chunk x0 x1 x4 w j := by
  refine chunk_core x0 x1 x4 w q k j hj hlt _ fun p l h => ?_
  pointwise
  rw [pay15_apply]
  refine Finset.sum_congr rfl fun d _ => ?_
  rw [ld_apply w off inb m hoff _ _ (by simp only; omega)]
  congr 3
  apply Fin.ext
  simp only
  omega

end Cert.KernelIdeal.Block
-- ==== Proof.Chain.lean ====
/-
  THE RUNNING MAXIMUM. Each chunk of the masked gradient is stored and its magnitudes join a running maximum, lane by lane.
  `piece_j` says what the j-th store holds, `top_j` what the running maximum is after chunk j, `mag_j` the magnitudes of a
  chunk that joins one step later. Every one is an instance of `chunk_even` or `chunk_odd`.
-/
module

public import proofs.«01_k».proof.Proof.Chunk

@[expose] public section

namespace Cert.KernelIdeal.Block

open Idealize.ShloMosaic Idealize.SL.Sem Cert.KernelIdeal.Gen

variable (x0 : Vec Ideal S512x1024 .fp8e5m2) (x1 : Vec Ideal S1x1x512 .f32) (x4 : Vec Ideal S512x352 .i8)
  (w : Vec Ideal S2816x1024 .bf16)

/-- The running maximum of the magnitudes after chunk `n`, lane by lane, from zero. -/
noncomputable def amaxTo : ℕ → FVec Ideal S512x128 .f32
  | 0 => maximumf (broadcast S512x128 (Scalar.ofBits (F := Ideal) .f32 0x00000000#32)) (absf (chunk x0 x1 x4 w 0))
  | n + 1 => maximumf (amaxTo n) (absf (chunk x0 x1 x4 w (n + 1)))

theorem piece_0 : k0_pay17 (F := Ideal) (k0_pay5 (F := Ideal) x1) (k0_pay7 (F := Ideal) x0) (k0_pay8 (F := Ideal) x4) (View.ld (Val := Elt Ideal) (e' := .bf16) w (Rect.unit (s := S2816x1024) ![0, 0] S256x1024.size inb_S2816x1024_S256x1024_0_0)) = chunk x0 x1 x4 w 0 :=
  (shapeCast_id _ _).trans (chunk_even x0 x1 x4 w ![0, 0] inb_S2816x1024_S256x1024_0_0 0 0 0 0 rfl rfl rfl (by omega))

theorem piece_1 : k0_pay21 (F := Ideal) (k0_pay5 (F := Ideal) x1) (k0_pay10 (k0_pay8 (F := Ideal) x4)) k0_pay13 (k0_pay15 (F := Ideal) (k0_pay7 (F := Ideal) x0) (View.ld (Val := Elt Ideal) (e' := .bf16) w (Rect.unit (s := S2816x1024) ![0, 0] S256x1024.size inb_S2816x1024_S256x1024_0_0))) k0_pay19 0#32 = chunk x0 x1 x4 w 1 :=
  (shapeCast_id _ _).trans (chunk_odd x0 x1 x4 w ![0, 0] inb_S2816x1024_S256x1024_0_0 0 1 0 1 rfl rfl rfl (by omega))

theorem piece_2 : k0_pay27 (F := Ideal) (k0_pay24 (k0_pay10 (k0_pay8 (F := Ideal) x4)) k0_pay13 k0_pay14) (k0_pay25 (F := Ideal) (k0_pay5 (F := Ideal) x1) (k0_pay7 (F := Ideal) x0) (View.ld (Val := Elt Ideal) (e' := .bf16) w (Rect.unit (s := S2816x1024) ![256, 0] S256x1024.size inb_S2816x1024_S256x1024_256_0))) = chunk x0 x1 x4 w 2 :=
  (shapeCast_id _ _).trans (chunk_even x0 x1 x4 w ![256, 0] inb_S2816x1024_S256x1024_256_0 0 2 1 2 rfl rfl rfl (by omega))

theorem piece_3 : k0_pay29 (F := Ideal) (k0_pay5 (F := Ideal) x1) (k0_pay10 (k0_pay8 (F := Ideal) x4)) k0_pay13 k0_pay14 (k0_pay23 (F := Ideal) (k0_pay7 (F := Ideal) x0) (View.ld (Val := Elt Ideal) (e' := .bf16) w (Rect.unit (s := S2816x1024) ![256, 0] S256x1024.size inb_S2816x1024_S256x1024_256_0))) = chunk x0 x1 x4 w 3 :=
  (shapeCast_id _ _).trans (chunk_odd x0 x1 x4 w ![256, 0] inb_S2816x1024_S256x1024_256_0 0 3 1 3 rfl rfl rfl (by omega))

theorem piece_4 : k0_pay36 (F := Ideal) (k0_pay5 (F := Ideal) x1) (k0_pay10 (k0_pay8 (F := Ideal) x4)) k0_pay13 (k0_pay31 (F := Ideal) (k0_pay7 (F := Ideal) x0) (View.ld (Val := Elt Ideal) (e' := .bf16) w (Rect.unit (s := S2816x1024) ![512, 0] S256x1024.size inb_S2816x1024_S256x1024_512_0))) (k0_pay32 k0_pay14) (k0_pay33 k0_pay14) (k0_pay34 k0_pay14) = chunk x0 x1 x4 w 4 :=
  (shapeCast_id _ _).trans (chunk_even x0 x1 x4 w ![512, 0] inb_S2816x1024_S256x1024_512_0 0 4 2 4 rfl rfl rfl (by omega))

theorem piece_5 : k0_pay39 (F := Ideal) (k0_pay5 (F := Ideal) x1) (k0_pay10 (k0_pay8 (F := Ideal) x4)) k0_pay13 k0_pay14 (k0_pay31 (F := Ideal) (k0_pay7 (F := Ideal) x0) (View.ld (Val := Elt Ideal) (e' := .bf16) w (Rect.unit (s := S2816x1024) ![512, 0] S256x1024.size inb_S2816x1024_S256x1024_512_0))) = chunk x0 x1 x4 w 5 :=
  (shapeCast_id _ _).trans (chunk_odd x0 x1 x4 w ![512, 0] inb_S2816x1024_S256x1024_512_0 0 5 2 5 rfl rfl rfl (by omega))

theorem piece_6 : k0_pay43 (F := Ideal) (k0_pay5 (F := Ideal) x1) (k0_pay7 (F := Ideal) x0) (k0_pay10 (k0_pay8 (F := Ideal) x4)) k0_pay13 k0_pay14 (View.ld (Val := Elt Ideal) (e' := .bf16) w (Rect.unit (s := S2816x1024) ![768, 0] S256x1024.size inb_S2816x1024_S256x1024_768_0)) = chunk x0 x1 x4 w 6 :=
  (shapeCast_id _ _).trans (chunk_even x0 x1 x4 w ![768, 0] inb_S2816x1024_S256x1024_768_0 0 6 3 6 rfl rfl rfl (by omega))

theorem piece_7 : k0_pay47 (F := Ideal) (k0_pay5 (F := Ideal) x1) (k0_pay41 (F := Ideal) (k0_pay7 (F := Ideal) x0) (View.ld (Val := Elt Ideal) (e' := .bf16) w (Rect.unit (s := S2816x1024) ![768, 0] S256x1024.size inb_S2816x1024_S256x1024_768_0))) (k0_pay45 (k0_pay10 (k0_pay8 (F := Ideal) x4)) k0_pay13 k0_pay14) = chunk x0 x1 x4 w 7 :=
  (shapeCast_id _ _).trans (chunk_odd x0 x1 x4 w ![768, 0] inb_S2816x1024_S256x1024_768_0 0 7 3 7 rfl rfl rfl (by omega))

theorem piece_8 : k0_pay50 (F := Ideal) (k0_pay5 (F := Ideal) x1) (k0_pay7 (F := Ideal) x0) (k0_pay11 (k0_pay8 (F := Ideal) x4)) k0_pay13 k0_pay14 (View.ld (Val := Elt Ideal) (e' := .bf16) w (Rect.unit (s := S2816x1024) ![1024, 0] S256x1024.size inb_S2816x1024_S256x1024_1024_0)) = chunk x0 x1 x4 w 8 :=
  (shapeCast_id _ _).trans (chunk_even x0 x1 x4 w ![1024, 0] inb_S2816x1024_S256x1024_1024_0 1 0 4 8 rfl rfl rfl (by omega))

theorem piece_9 : k0_pay54 (F := Ideal) (k0_pay5 (F := Ideal) x1) (k0_pay11 (k0_pay8 (F := Ideal) x4)) k0_pay13 (k0_pay48 (F := Ideal) (k0_pay7 (F := Ideal) x0) (View.ld (Val := Elt Ideal) (e' := .bf16) w (Rect.unit (s := S2816x1024) ![1024, 0] S256x1024.size inb_S2816x1024_S256x1024_1024_0))) (k0_pay52 k0_pay14) 0#32 = chunk x0 x1 x4 w 9 :=
  (shapeCast_id _ _).trans (chunk_odd x0 x1 x4 w ![1024, 0] inb_S2816x1024_S256x1024_1024_0 1 1 4 9 rfl rfl rfl (by omega))

theorem piece_10 : k0_pay60 (F := Ideal) (k0_pay57 (k0_pay11 (k0_pay8 (F := Ideal) x4)) k0_pay13 k0_pay14) (k0_pay58 (F := Ideal) (k0_pay5 (F := Ideal) x1) (k0_pay7 (F := Ideal) x0) (View.ld (Val := Elt Ideal) (e' := .bf16) w (Rect.unit (s := S2816x1024) ![1280, 0] S256x1024.size inb_S2816x1024_S256x1024_1280_0))) = chunk x0 x1 x4 w 10 :=
  (shapeCast_id _ _).trans (chunk_even x0 x1 x4 w ![1280, 0] inb_S2816x1024_S256x1024_1280_0 1 2 5 10 rfl rfl rfl (by omega))

theorem piece_11 : k0_pay62 (F := Ideal) (k0_pay5 (F := Ideal) x1) (k0_pay11 (k0_pay8 (F := Ideal) x4)) k0_pay13 k0_pay14 (k0_pay56 (F := Ideal) (k0_pay7 (F := Ideal) x0) (View.ld (Val := Elt Ideal) (e' := .bf16) w (Rect.unit (s := S2816x1024) ![1280, 0] S256x1024.size inb_S2816x1024_S256x1024_1280_0))) = chunk x0 x1 x4 w 11 :=
  (shapeCast_id _ _).trans (chunk_odd x0 x1 x4 w ![1280, 0] inb_S2816x1024_S256x1024_1280_0 1 3 5 11 rfl rfl rfl (by omega))

theorem piece_12 : k0_pay69 (F := Ideal) (k0_pay5 (F := Ideal) x1) (k0_pay11 (k0_pay8 (F := Ideal) x4)) k0_pay13 (k0_pay64 (F := Ideal) (k0_pay7 (F := Ideal) x0) (View.ld (Val := Elt Ideal) (e' := .bf16) w (Rect.unit (s := S2816x1024) ![1536, 0] S256x1024.size inb_S2816x1024_S256x1024_1536_0))) (k0_pay65 k0_pay14) (k0_pay66 k0_pay14) (k0_pay67 k0_pay14) = chunk x0 x1 x4 w 12 :=
  (shapeCast_id _ _).trans (chunk_even x0 x1 x4 w ![1536, 0] inb_S2816x1024_S256x1024_1536_0 1 4 6 12 rfl rfl rfl (by omega))

theorem piece_13 : k0_pay72 (F := Ideal) (k0_pay5 (F := Ideal) x1) (k0_pay11 (k0_pay8 (F := Ideal) x4)) k0_pay13 k0_pay14 (k0_pay64 (F := Ideal) (k0_pay7 (F := Ideal) x0) (View.ld (Val := Elt Ideal) (e' := .bf16) w (Rect.unit (s := S2816x1024) ![1536, 0] S256x1024.size inb_S2816x1024_S256x1024_1536_0))) = chunk x0 x1 x4 w 13 :=
  (shapeCast_id _ _).trans (chunk_odd x0 x1 x4 w ![1536, 0] inb_S2816x1024_S256x1024_1536_0 1 5 6 13 rfl rfl rfl (by omega))

theorem piece_14 : k0_pay76 (F := Ideal) (k0_pay5 (F := Ideal) x1) (k0_pay7 (F := Ideal) x0) (k0_pay11 (k0_pay8 (F := Ideal) x4)) k0_pay13 k0_pay14 (View.ld (Val := Elt Ideal) (e' := .bf16) w (Rect.unit (s := S2816x1024) ![1792, 0] S256x1024.size inb_S2816x1024_S256x1024_1792_0)) = chunk x0 x1 x4 w 14 :=
  (shapeCast_id _ _).trans (chunk_even x0 x1 x4 w ![1792, 0] inb_S2816x1024_S256x1024_1792_0 1 6 7 14 rfl rfl rfl (by omega))

theorem piece_15 : k0_pay80 (F := Ideal) (k0_pay5 (F := Ideal) x1) (k0_pay74 (F := Ideal) (k0_pay7 (F := Ideal) x0) (View.ld (Val := Elt Ideal) (e' := .bf16) w (Rect.unit (s := S2816x1024) ![1792, 0] S256x1024.size inb_S2816x1024_S256x1024_1792_0))) (k0_pay78 (k0_pay11 (k0_pay8 (F := Ideal) x4)) k0_pay13 k0_pay14) = chunk x0 x1 x4 w 15 :=
  (shapeCast_id _ _).trans (chunk_odd x0 x1 x4 w ![1792, 0] inb_S2816x1024_S256x1024_1792_0 1 7 7 15 rfl rfl rfl (by omega))

theorem piece_16 : k0_pay83 (F := Ideal) (k0_pay5 (F := Ideal) x1) (k0_pay7 (F := Ideal) x0) (k0_pay12 (k0_pay8 (F := Ideal) x4)) k0_pay13 k0_pay14 (View.ld (Val := Elt Ideal) (e' := .bf16) w (Rect.unit (s := S2816x1024) ![2048, 0] S256x1024.size inb_S2816x1024_S256x1024_2048_0)) = chunk x0 x1 x4 w 16 :=
  (shapeCast_id _ _).trans (chunk_even x0 x1 x4 w ![2048, 0] inb_S2816x1024_S256x1024_2048_0 2 0 8 16 rfl rfl rfl (by omega))

theorem piece_17 : k0_pay87 (F := Ideal) (k0_pay5 (F := Ideal) x1) (k0_pay12 (k0_pay8 (F := Ideal) x4)) k0_pay13 (k0_pay81 (F := Ideal) (k0_pay7 (F := Ideal) x0) (View.ld (Val := Elt Ideal) (e' := .bf16) w (Rect.unit (s := S2816x1024) ![2048, 0] S256x1024.size inb_S2816x1024_S256x1024_2048_0))) (k0_pay85 k0_pay14) 0#32 = chunk x0 x1 x4 w 17 :=
  (shapeCast_id _ _).trans (chunk_odd x0 x1 x4 w ![2048, 0] inb_S2816x1024_S256x1024_2048_0 2 1 8 17 rfl rfl rfl (by omega))

theorem piece_18 : k0_pay93 (F := Ideal) (k0_pay90 (k0_pay12 (k0_pay8 (F := Ideal) x4)) k0_pay13 k0_pay14) (k0_pay91 (F := Ideal) (k0_pay5 (F := Ideal) x1) (k0_pay7 (F := Ideal) x0) (View.ld (Val := Elt Ideal) (e' := .bf16) w (Rect.unit (s := S2816x1024) ![2304, 0] S256x1024.size inb_S2816x1024_S256x1024_2304_0))) = chunk x0 x1 x4 w 18 :=
  (shapeCast_id _ _).trans (chunk_even x0 x1 x4 w ![2304, 0] inb_S2816x1024_S256x1024_2304_0 2 2 9 18 rfl rfl rfl (by omega))

theorem piece_19 : k0_pay95 (F := Ideal) (k0_pay5 (F := Ideal) x1) (k0_pay12 (k0_pay8 (F := Ideal) x4)) k0_pay13 k0_pay14 (k0_pay89 (F := Ideal) (k0_pay7 (F := Ideal) x0) (View.ld (Val := Elt Ideal) (e' := .bf16) w (Rect.unit (s := S2816x1024) ![2304, 0] S256x1024.size inb_S2816x1024_S256x1024_2304_0))) = chunk x0 x1 x4 w 19 :=
  (shapeCast_id _ _).trans (chunk_odd x0 x1 x4 w ![2304, 0] inb_S2816x1024_S256x1024_2304_0 2 3 9 19 rfl rfl rfl (by omega))

theorem piece_20 : k0_pay102 (F := Ideal) (k0_pay5 (F := Ideal) x1) (k0_pay12 (k0_pay8 (F := Ideal) x4)) k0_pay13 (k0_pay97 (F := Ideal) (k0_pay7 (F := Ideal) x0) (View.ld (Val := Elt Ideal) (e' := .bf16) w (Rect.unit (s := S2816x1024) ![2560, 0] S256x1024.size inb_S2816x1024_S256x1024_2560_0))) (k0_pay98 k0_pay14) (k0_pay99 k0_pay14) (k0_pay100 k0_pay14) = chunk x0 x1 x4 w 20 :=
  (shapeCast_id _ _).trans (chunk_even x0 x1 x4 w ![2560, 0] inb_S2816x1024_S256x1024_2560_0 2 4 10 20 rfl rfl rfl (by omega))

theorem piece_21 : k0_pay105 (F := Ideal) (k0_pay5 (F := Ideal) x1) (k0_pay12 (k0_pay8 (F := Ideal) x4)) k0_pay13 k0_pay14 (k0_pay97 (F := Ideal) (k0_pay7 (F := Ideal) x0) (View.ld (Val := Elt Ideal) (e' := .bf16) w (Rect.unit (s := S2816x1024) ![2560, 0] S256x1024.size inb_S2816x1024_S256x1024_2560_0))) = chunk x0 x1 x4 w 21 :=
  (shapeCast_id _ _).trans (chunk_odd x0 x1 x4 w ![2560, 0] inb_S2816x1024_S256x1024_2560_0 2 5 10 21 rfl rfl rfl (by omega))

theorem top_0 : k0_pay18 (F := Ideal) (k0_pay5 (F := Ideal) x1) (k0_pay7 (F := Ideal) x0) (k0_pay8 (F := Ideal) x4) (View.ld (Val := Elt Ideal) (e' := .bf16) w (Rect.unit (s := S2816x1024) ![0, 0] S256x1024.size inb_S2816x1024_S256x1024_0_0)) = amaxTo x0 x1 x4 w 0 :=
  congrArg (fun v => maximumf (broadcast S512x128 (Scalar.ofBits (F := Ideal) .f32 0x00000000#32)) (absf v)) (chunk_even x0 x1 x4 w ![0, 0] inb_S2816x1024_S256x1024_0_0 0 0 0 0 rfl rfl rfl (by omega))

theorem top_1 : k0_pay22 (F := Ideal) (k0_pay5 (F := Ideal) x1) (k0_pay10 (k0_pay8 (F := Ideal) x4)) k0_pay13 (k0_pay15 (F := Ideal) (k0_pay7 (F := Ideal) x0) (View.ld (Val := Elt Ideal) (e' := .bf16) w (Rect.unit (s := S2816x1024) ![0, 0] S256x1024.size inb_S2816x1024_S256x1024_0_0))) (amaxTo x0 x1 x4 w 0) k0_pay19 0#32 = amaxTo x0 x1 x4 w 1 :=
  congrArg (fun u_ => (maximumf (amaxTo x0 x1 x4 w 0) (absf u_))) (chunk_odd x0 x1 x4 w ![0, 0] inb_S2816x1024_S256x1024_0_0 0 1 0 1 rfl rfl rfl (by omega))

theorem top_3 : k0_pay30 (F := Ideal) (k0_pay5 (F := Ideal) x1) (k0_pay10 (k0_pay8 (F := Ideal) x4)) k0_pay13 k0_pay14 (amaxTo x0 x1 x4 w 1) (k0_pay23 (F := Ideal) (k0_pay7 (F := Ideal) x0) (View.ld (Val := Elt Ideal) (e' := .bf16) w (Rect.unit (s := S2816x1024) ![256, 0] S256x1024.size inb_S2816x1024_S256x1024_256_0))) (k0_pay24 (k0_pay10 (k0_pay8 (F := Ideal) x4)) k0_pay13 k0_pay14) (k0_pay25 (F := Ideal) (k0_pay5 (F := Ideal) x1) (k0_pay7 (F := Ideal) x0) (View.ld (Val := Elt Ideal) (e' := .bf16) w (Rect.unit (s := S2816x1024) ![256, 0] S256x1024.size inb_S2816x1024_S256x1024_256_0))) = amaxTo x0 x1 x4 w 3 :=
  congrArg₂ (fun u_ v_ => (maximumf (maximumf (amaxTo x0 x1 x4 w 1) (absf u_)) (absf v_))) (chunk_even x0 x1 x4 w ![256, 0] inb_S2816x1024_S256x1024_256_0 0 2 1 2 rfl rfl rfl (by omega)) (chunk_odd x0 x1 x4 w ![256, 0] inb_S2816x1024_S256x1024_256_0 0 3 1 3 rfl rfl rfl (by omega))

theorem top_4 : k0_pay37 (F := Ideal) (k0_pay5 (F := Ideal) x1) (k0_pay10 (k0_pay8 (F := Ideal) x4)) k0_pay13 (amaxTo x0 x1 x4 w 3) (k0_pay31 (F := Ideal) (k0_pay7 (F := Ideal) x0) (View.ld (Val := Elt Ideal) (e' := .bf16) w (Rect.unit (s := S2816x1024) ![512, 0] S256x1024.size inb_S2816x1024_S256x1024_512_0))) (k0_pay32 k0_pay14) (k0_pay33 k0_pay14) (k0_pay34 k0_pay14) = amaxTo x0 x1 x4 w 4 :=
  congrArg (fun u_ => (maximumf (amaxTo x0 x1 x4 w 3) (absf u_))) (chunk_even x0 x1 x4 w ![512, 0] inb_S2816x1024_S256x1024_512_0 0 4 2 4 rfl rfl rfl (by omega))

theorem mag_5 : k0_pay40 (F := Ideal) (k0_pay5 (F := Ideal) x1) (k0_pay10 (k0_pay8 (F := Ideal) x4)) k0_pay13 k0_pay14 (k0_pay31 (F := Ideal) (k0_pay7 (F := Ideal) x0) (View.ld (Val := Elt Ideal) (e' := .bf16) w (Rect.unit (s := S2816x1024) ![512, 0] S256x1024.size inb_S2816x1024_S256x1024_512_0))) = absf (chunk x0 x1 x4 w 5) :=
  congrArg absf (chunk_odd x0 x1 x4 w ![512, 0] inb_S2816x1024_S256x1024_512_0 0 5 2 5 rfl rfl rfl (by omega))

theorem top_6 : k0_pay44 (F := Ideal) (k0_pay5 (F := Ideal) x1) (k0_pay7 (F := Ideal) x0) (k0_pay10 (k0_pay8 (F := Ideal) x4)) k0_pay13 k0_pay14 (amaxTo x0 x1 x4 w 4) (absf (chunk x0 x1 x4 w 5)) (View.ld (Val := Elt Ideal) (e' := .bf16) w (Rect.unit (s := S2816x1024) ![768, 0] S256x1024.size inb_S2816x1024_S256x1024_768_0)) = amaxTo x0 x1 x4 w 6 :=
  congrArg (fun u_ => (maximumf (maximumf (amaxTo x0 x1 x4 w 4) (absf (chunk x0 x1 x4 w 5))) (absf u_))) (chunk_even x0 x1 x4 w ![768, 0] inb_S2816x1024_S256x1024_768_0 0 6 3 6 rfl rfl rfl (by omega))

theorem top_8 : k0_pay51 (F := Ideal) (k0_pay5 (F := Ideal) x1) (k0_pay7 (F := Ideal) x0) (k0_pay11 (k0_pay8 (F := Ideal) x4)) k0_pay13 k0_pay14 (k0_pay41 (F := Ideal) (k0_pay7 (F := Ideal) x0) (View.ld (Val := Elt Ideal) (e' := .bf16) w (Rect.unit (s := S2816x1024) ![768, 0] S256x1024.size inb_S2816x1024_S256x1024_768_0))) (amaxTo x0 x1 x4 w 6) (k0_pay45 (k0_pay10 (k0_pay8 (F := Ideal) x4)) k0_pay13 k0_pay14) (View.ld (Val := Elt Ideal) (e' := .bf16) w (Rect.unit (s := S2816x1024) ![1024, 0] S256x1024.size inb_S2816x1024_S256x1024_1024_0)) = amaxTo x0 x1 x4 w 8 :=
  congrArg₂ (fun u_ v_ => (maximumf (maximumf (amaxTo x0 x1 x4 w 6) (absf u_)) (absf v_))) (chunk_odd x0 x1 x4 w ![768, 0] inb_S2816x1024_S256x1024_768_0 0 7 3 7 rfl rfl rfl (by omega)) (chunk_even x0 x1 x4 w ![1024, 0] inb_S2816x1024_S256x1024_1024_0 1 0 4 8 rfl rfl rfl (by omega))

theorem top_9 : k0_pay55 (F := Ideal) (k0_pay5 (F := Ideal) x1) (k0_pay11 (k0_pay8 (F := Ideal) x4)) k0_pay13 (k0_pay48 (F := Ideal) (k0_pay7 (F := Ideal) x0) (View.ld (Val := Elt Ideal) (e' := .bf16) w (Rect.unit (s := S2816x1024) ![1024, 0] S256x1024.size inb_S2816x1024_S256x1024_1024_0))) (amaxTo x0 x1 x4 w 8) (k0_pay52 k0_pay14) 0#32 = amaxTo x0 x1 x4 w 9 :=
  congrArg (fun u_ => (maximumf (amaxTo x0 x1 x4 w 8) (absf u_))) (chunk_odd x0 x1 x4 w ![1024, 0] inb_S2816x1024_S256x1024_1024_0 1 1 4 9 rfl rfl rfl (by omega))

theorem top_11 : k0_pay63 (F := Ideal) (k0_pay5 (F := Ideal) x1) (k0_pay11 (k0_pay8 (F := Ideal) x4)) k0_pay13 k0_pay14 (amaxTo x0 x1 x4 w 9) (k0_pay56 (F := Ideal) (k0_pay7 (F := Ideal) x0) (View.ld (Val := Elt Ideal) (e' := .bf16) w (Rect.unit (s := S2816x1024) ![1280, 0] S256x1024.size inb_S2816x1024_S256x1024_1280_0))) (k0_pay57 (k0_pay11 (k0_pay8 (F := Ideal) x4)) k0_pay13 k0_pay14) (k0_pay58 (F := Ideal) (k0_pay5 (F := Ideal) x1) (k0_pay7 (F := Ideal) x0) (View.ld (Val := Elt Ideal) (e' := .bf16) w (Rect.unit (s := S2816x1024) ![1280, 0] S256x1024.size inb_S2816x1024_S256x1024_1280_0))) = amaxTo x0 x1 x4 w 11 :=
  congrArg₂ (fun u_ v_ => (maximumf (maximumf (amaxTo x0 x1 x4 w 9) (absf u_)) (absf v_))) (chunk_even x0 x1 x4 w ![1280, 0] inb_S2816x1024_S256x1024_1280_0 1 2 5 10 rfl rfl rfl (by omega)) (chunk_odd x0 x1 x4 w ![1280, 0] inb_S2816x1024_S256x1024_1280_0 1 3 5 11 rfl rfl rfl (by omega))

theorem top_12 : k0_pay70 (F := Ideal) (k0_pay5 (F := Ideal) x1) (k0_pay11 (k0_pay8 (F := Ideal) x4)) k0_pay13 (amaxTo x0 x1 x4 w 11) (k0_pay64 (F := Ideal) (k0_pay7 (F := Ideal) x0) (View.ld (Val := Elt Ideal) (e' := .bf16) w (Rect.unit (s := S2816x1024) ![1536, 0] S256x1024.size inb_S2816x1024_S256x1024_1536_0))) (k0_pay65 k0_pay14) (k0_pay66 k0_pay14) (k0_pay67 k0_pay14) = amaxTo x0 x1 x4 w 12 :=
  congrArg (fun u_ => (maximumf (amaxTo x0 x1 x4 w 11) (absf u_))) (chunk_even x0 x1 x4 w ![1536, 0] inb_S2816x1024_S256x1024_1536_0 1 4 6 12 rfl rfl rfl (by omega))

theorem mag_13 : k0_pay73 (F := Ideal) (k0_pay5 (F := Ideal) x1) (k0_pay11 (k0_pay8 (F := Ideal) x4)) k0_pay13 k0_pay14 (k0_pay64 (F := Ideal) (k0_pay7 (F := Ideal) x0) (View.ld (Val := Elt Ideal) (e' := .bf16) w (Rect.unit (s := S2816x1024) ![1536, 0] S256x1024.size inb_S2816x1024_S256x1024_1536_0))) = absf (chunk x0 x1 x4 w 13) :=
  congrArg absf (chunk_odd x0 x1 x4 w ![1536, 0] inb_S2816x1024_S256x1024_1536_0 1 5 6 13 rfl rfl rfl (by omega))

theorem top_14 : k0_pay77 (F := Ideal) (k0_pay5 (F := Ideal) x1) (k0_pay7 (F := Ideal) x0) (k0_pay11 (k0_pay8 (F := Ideal) x4)) k0_pay13 k0_pay14 (amaxTo x0 x1 x4 w 12) (absf (chunk x0 x1 x4 w 13)) (View.ld (Val := Elt Ideal) (e' := .bf16) w (Rect.unit (s := S2816x1024) ![1792, 0] S256x1024.size inb_S2816x1024_S256x1024_1792_0)) = amaxTo x0 x1 x4 w 14 :=
  congrArg (fun u_ => (maximumf (maximumf (amaxTo x0 x1 x4 w 12) (absf (chunk x0 x1 x4 w 13))) (absf u_))) (chunk_even x0 x1 x4 w ![1792, 0] inb_S2816x1024_S256x1024_1792_0 1 6 7 14 rfl rfl rfl (by omega))

theorem top_16 : k0_pay84 (F := Ideal) (k0_pay5 (F := Ideal) x1) (k0_pay7 (F := Ideal) x0) (k0_pay12 (k0_pay8 (F := Ideal) x4)) k0_pay13 k0_pay14 (k0_pay74 (F := Ideal) (k0_pay7 (F := Ideal) x0) (View.ld (Val := Elt Ideal) (e' := .bf16) w (Rect.unit (s := S2816x1024) ![1792, 0] S256x1024.size inb_S2816x1024_S256x1024_1792_0))) (amaxTo x0 x1 x4 w 14) (k0_pay78 (k0_pay11 (k0_pay8 (F := Ideal) x4)) k0_pay13 k0_pay14) (View.ld (Val := Elt Ideal) (e' := .bf16) w (Rect.unit (s := S2816x1024) ![2048, 0] S256x1024.size inb_S2816x1024_S256x1024_2048_0)) = amaxTo x0 x1 x4 w 16 :=
  congrArg₂ (fun u_ v_ => (maximumf (maximumf (amaxTo x0 x1 x4 w 14) (absf u_)) (absf v_))) (chunk_odd x0 x1 x4 w ![1792, 0] inb_S2816x1024_S256x1024_1792_0 1 7 7 15 rfl rfl rfl (by omega)) (chunk_even x0 x1 x4 w ![2048, 0] inb_S2816x1024_S256x1024_2048_0 2 0 8 16 rfl rfl rfl (by omega))

theorem top_17 : k0_pay88 (F := Ideal) (k0_pay5 (F := Ideal) x1) (k0_pay12 (k0_pay8 (F := Ideal) x4)) k0_pay13 (k0_pay81 (F := Ideal) (k0_pay7 (F := Ideal) x0) (View.ld (Val := Elt Ideal) (e' := .bf16) w (Rect.unit (s := S2816x1024) ![2048, 0] S256x1024.size inb_S2816x1024_S256x1024_2048_0))) (amaxTo x0 x1 x4 w 16) (k0_pay85 k0_pay14) 0#32 = amaxTo x0 x1 x4 w 17 :=
  congrArg (fun u_ => (maximumf (amaxTo x0 x1 x4 w 16) (absf u_))) (chunk_odd x0 x1 x4 w ![2048, 0] inb_S2816x1024_S256x1024_2048_0 2 1 8 17 rfl rfl rfl (by omega))

theorem top_19 : k0_pay96 (F := Ideal) (k0_pay5 (F := Ideal) x1) (k0_pay12 (k0_pay8 (F := Ideal) x4)) k0_pay13 k0_pay14 (amaxTo x0 x1 x4 w 17) (k0_pay89 (F := Ideal) (k0_pay7 (F := Ideal) x0) (View.ld (Val := Elt Ideal) (e' := .bf16) w (Rect.unit (s := S2816x1024) ![2304, 0] S256x1024.size inb_S2816x1024_S256x1024_2304_0))) (k0_pay90 (k0_pay12 (k0_pay8 (F := Ideal) x4)) k0_pay13 k0_pay14) (k0_pay91 (F := Ideal) (k0_pay5 (F := Ideal) x1) (k0_pay7 (F := Ideal) x0) (View.ld (Val := Elt Ideal) (e' := .bf16) w (Rect.unit (s := S2816x1024) ![2304, 0] S256x1024.size inb_S2816x1024_S256x1024_2304_0))) = amaxTo x0 x1 x4 w 19 :=
  congrArg₂ (fun u_ v_ => (maximumf (maximumf (amaxTo x0 x1 x4 w 17) (absf u_)) (absf v_))) (chunk_even x0 x1 x4 w ![2304, 0] inb_S2816x1024_S256x1024_2304_0 2 2 9 18 rfl rfl rfl (by omega)) (chunk_odd x0 x1 x4 w ![2304, 0] inb_S2816x1024_S256x1024_2304_0 2 3 9 19 rfl rfl rfl (by omega))

theorem top_20 : k0_pay103 (F := Ideal) (k0_pay5 (F := Ideal) x1) (k0_pay12 (k0_pay8 (F := Ideal) x4)) k0_pay13 (amaxTo x0 x1 x4 w 19) (k0_pay97 (F := Ideal) (k0_pay7 (F := Ideal) x0) (View.ld (Val := Elt Ideal) (e' := .bf16) w (Rect.unit (s := S2816x1024) ![2560, 0] S256x1024.size inb_S2816x1024_S256x1024_2560_0))) (k0_pay98 k0_pay14) (k0_pay99 k0_pay14) (k0_pay100 k0_pay14) = amaxTo x0 x1 x4 w 20 :=
  congrArg (fun u_ => (maximumf (amaxTo x0 x1 x4 w 19) (absf u_))) (chunk_even x0 x1 x4 w ![2560, 0] inb_S2816x1024_S256x1024_2560_0 2 4 10 20 rfl rfl rfl (by omega))

theorem mag_21 : k0_pay106 (F := Ideal) (k0_pay5 (F := Ideal) x1) (k0_pay12 (k0_pay8 (F := Ideal) x4)) k0_pay13 k0_pay14 (k0_pay97 (F := Ideal) (k0_pay7 (F := Ideal) x0) (View.ld (Val := Elt Ideal) (e' := .bf16) w (Rect.unit (s := S2816x1024) ![2560, 0] S256x1024.size inb_S2816x1024_S256x1024_2560_0))) = absf (chunk x0 x1 x4 w 21) :=
  congrArg absf (chunk_odd x0 x1 x4 w ![2560, 0] inb_S2816x1024_S256x1024_2560_0 2 5 10 21 rfl rfl rfl (by omega))

end Cert.KernelIdeal.Block
-- ==== Proof.Quant.lean ====
/-
  THE SCALE of each token of a block: the lanes' running maxima meet in one maximum per token, its peak; the binary search
  against powers of two gives the exponent; the scale and its inverse are built from their bit patterns.
-/
module

public import proofs.«01_k».proof.Proof.Chain

@[expose] public section

namespace Cert.KernelIdeal.Block

open Idealize.ShloMosaic Idealize.SL.Sem Cert.KernelIdeal.Gen

variable (x0 : Vec Ideal S512x1024 .fp8e5m2) (x1 : Vec Ideal S1x1x512 .f32) (x4 : Vec Ideal S512x352 .i8)
  (w : Vec Ideal S2816x1024 .bf16)

/-- The peak, the scale and the inverse scale of the block's token `p`. -/
noncomputable def peak (p : Fin 512) : EReal := Row.peak (dhBlock x0 x1 x4 w p)
noncomputable def scale (p : Fin 512) : EReal := Row.scale (peak x0 x1 x4 w p)
noncomputable def inv (p : Fin 512) : EReal := Row.inv (peak x0 x1 x4 w p)

/-- The same in every lane. -/
noncomputable def peaks : FVec Ideal S512x128 .f32 := fun y => peak x0 x1 x4 w (y 0)
noncomputable def scales : FVec Ideal S512x128 .f32 := fun y => scale x0 x1 x4 w (y 0)
noncomputable def invs : FVec Ideal S512x128 .f32 := fun y => inv x0 x1 x4 w (y 0)

theorem amaxTo_le_iff (n : ℕ) (y : S512x128.Idx) (M : EReal) :
    amaxTo x0 x1 x4 w n y ≤ M ↔ 0 ≤ M ∧ ∀ j ≤ n, Row.mag (chunk x0 x1 x4 w j y) ≤ M := by
  induction n with
  | zero =>
    have : amaxTo x0 x1 x4 w 0 y = max 0 (Row.mag (chunk x0 x1 x4 w 0 y)) := by
      unfold amaxTo
      pointwise
      rfl
    rw [this, max_le_iff]
    simp
  | succ n ih =>
    have : amaxTo x0 x1 x4 w (n + 1) y = max (amaxTo x0 x1 x4 w n y) (Row.mag (chunk x0 x1 x4 w (n + 1) y)) := rfl
    rw [this, max_le_iff, ih]
    constructor
    · rintro ⟨⟨h0, h⟩, h1⟩
      refine ⟨h0, fun j hj => ?_⟩
      rcases Nat.lt_or_ge j (n + 1) with hlt | hge
      · exact h j (by omega)
      · rw [show j = n + 1 by omega]; exact h1
    · rintro ⟨h0, h⟩
      exact ⟨⟨h0, fun j hj => h j (by omega)⟩, h _ le_rfl⟩

/-- The running maxima of a token's lanes meet in the largest magnitude of its row. -/
theorem fold_amaxTo (p : Fin 512) (b : EReal) (hb : b = ⊥) :
    (Finset.univ : Finset (Fin 128)).fold max b (fun l => amaxTo x0 x1 x4 w 21 (ix2 p l))
      = (Finset.univ : Finset (Fin 2816)).sup (fun f => Row.mag (dhBlock x0 x1 x4 w p f)) := by
  subst hb
  refine eq_of_forall_ge_iff fun M => ?_
  rw [Finset.fold_max_le, Finset.sup_le_iff]
  simp only [amaxTo_le_iff, bot_le, true_and, Finset.mem_univ, forall_true_left]
  constructor
  · intro h f
    have hf := f.isLt
    have := (h ⟨f.val % 128, Nat.mod_lt _ (by omega)⟩).2 (f.val / 128) (by omega)
    have e : 128 * (f.val / 128) + f.val % 128 = f.val := Nat.div_add_mod _ _
    have hc : chunk x0 x1 x4 w (f.val / 128) (ix2 p ⟨f.val % 128, Nat.mod_lt _ (by omega)⟩) = dhBlock x0 x1 x4 w p f := by
      refine (dif_pos (show 128 * (f.val / 128) + f.val % 128 < 2816 by omega)).trans ?_
      exact congrArg (dhBlock x0 x1 x4 w p) (Fin.ext e)
    rwa [hc] at this
  · intro h l
    refine ⟨(Row.mag_nonneg _).trans (h 0), fun j hj => ?_⟩
    have hl := l.isLt
    have hc : chunk x0 x1 x4 w j (ix2 p l) = dhBlock x0 x1 x4 w p ⟨128 * j + l.val, by omega⟩ :=
      dif_pos (show 128 * j + l.val < 2816 by omega)
    rw [hc]
    exact h _

theorem peaks_eq : k0_pay107 (F := Ideal) (amaxTo x0 x1 x4 w 20) (absf (chunk x0 x1 x4 w 21)) = peaks x0 x1 x4 w := by
  have h21 : maximumf (amaxTo x0 x1 x4 w 20) (absf (chunk x0 x1 x4 w 21)) = amaxTo x0 x1 x4 w 21 := rfl
  funext y
  obtain ⟨p, l, rfl⟩ : ∃ (p : Fin 512) (l : Fin 128), y = ix2 p l := ⟨y 0, y 1, eq_ix2 y⟩
  unfold k0_pay107
  rw [h21]
  pointwise
  rw [fold_amaxTo]
  · rfl
  · simp [Ideal.ofBits, Ideal.ieee]

/-- One step of the search, in every lane. -/
noncomputable def stepV (x : FVec Ideal S512x128 .f32) (s : BitVec 32) (b : IVec S512x128 32) : IVec S512x128 32 :=
  select (cmpf .olt x (bitcastToFloat (F := Ideal) .f32 (shli (addi b (broadcast S512x128 s)) (broadcast S512x128 23#32))))
    b (addi b (broadcast S512x128 s))

theorem shl23 (b : BitVec 32) : IntOp.shli .vector b 23#32 = b <<< 23 := rfl

theorem stepV_apply (x : FVec Ideal S512x128 .f32) (s : BitVec 32) (b : IVec S512x128 32) (y : S512x128.Idx) :
    stepV x s b y = Row.step (x y) s (b y) := by
  unfold stepV Row.step
  pointwise
  rw [shl23]
  rfl

/-- The exponent's word, as the search leaves it. -/
theorem pay110_apply (x : FVec Ideal S512x128 .f32) (u v : FVec Ideal S512x128 .f32) (hx : k0_pay107 (F := Ideal) u v = x)
    (y : S512x128.Idx) :
    k0_pay110 (F := Ideal) x (k0_pay108 (F := Ideal) u v) (k0_pay109 (F := Ideal) u v) 23#32 y = Row.word (x y) := by
  have h1 : k0_pay108 (F := Ideal) u v
      = stepV x 8#32 (stepV x 16#32 (stepV x 32#32 (stepV x 63#32 (stepV x 126#32 (broadcast S512x128 0#32))))) := by
    subst hx
    rfl
  have h2 : k0_pay110 (F := Ideal) x (k0_pay108 (F := Ideal) u v) (k0_pay109 (F := Ideal) u v) 23#32
      = (fun b : IVec S512x128 32 => select (cmpi .eq b (broadcast S512x128 0#32)) (broadcast S512x128 0#32)
          (subi b (broadcast S512x128 126#32))) (stepV x 1#32 (stepV x 2#32 (stepV x 4#32 (k0_pay108 (F := Ideal) u v)))) := rfl
  have h3 : (stepV x 1#32 (stepV x 2#32 (stepV x 4#32 (k0_pay108 (F := Ideal) u v)))) y = Row.search (x y) := by
    rw [h1]
    simp only [stepV_apply]
    rfl
  rw [h2]
  generalize (stepV x 1#32 (stepV x 2#32 (stepV x 4#32 (k0_pay108 (F := Ideal) u v)))) = b at h3
  pointwise
  rw [h3]
  unfold Row.word
  by_cases h : Row.search (x y) = 0#32
  · rw [if_pos h, h]
    rfl
  · rw [if_neg h]
    have hb : (Row.search (x y) == 0#32) = false := beq_false_of_ne h
    simp [Scalar.select, IntOp.cmpi, IntOp.subi, hb]

theorem scales_eq : k0_pay111 (F := Ideal) (peaks x0 x1 x4 w) (k0_pay108 (F := Ideal) (amaxTo x0 x1 x4 w 20) (absf (chunk x0 x1 x4 w 21)))
      (k0_pay109 (F := Ideal) (amaxTo x0 x1 x4 w 20) (absf (chunk x0 x1 x4 w 21))) 23#32 = scales x0 x1 x4 w := by
  funext y
  have h := pay110_apply _ _ _ (peaks_eq x0 x1 x4 w) y
  refine Eq.trans ?_ (Row.scale_eq (peak x0 x1 x4 w (y 0)))
  unfold k0_pay111
  pointwise
  rw [h]
  rfl

theorem invs_eq : k0_pay112 (F := Ideal) (peaks x0 x1 x4 w) (k0_pay108 (F := Ideal) (amaxTo x0 x1 x4 w 20) (absf (chunk x0 x1 x4 w 21)))
      (k0_pay109 (F := Ideal) (amaxTo x0 x1 x4 w 20) (absf (chunk x0 x1 x4 w 21))) 23#32 = invs x0 x1 x4 w := by
  funext y
  have h := pay110_apply _ _ _ (peaks_eq x0 x1 x4 w) y
  refine Eq.trans ?_ (Row.inv_eq (peak x0 x1 x4 w (y 0)))
  unfold k0_pay112
  pointwise
  rw [h]
  rfl

end Cert.KernelIdeal.Block
-- ==== Proof.Tiles.lean ====
/-
  THE CODES of a block. The masked gradient waits in a buffer, 22 stores of 128 features each, and is read back chunk by
  chunk; each chunk times the inverse scale, clipped, is stored as codes. `readCov_dhTiles`: what is read back is the chunk;
  `readCov_codeTiles` and `canon_codeTiles`: the 22 stores leave `codes`, the block's codes as the mathematics has them.
-/
module

public import proofs.«01_k».proof.Proof.Quant
public import Idealize.ShloMosaic.Lib.Pipeline.ReadBack

@[expose] public section

namespace Cert.KernelIdeal.Block

open Idealize.ShloMosaic Idealize.SL.Sem Cert.KernelIdeal.Gen

variable (x0 : Vec Ideal S512x1024 .fp8e5m2) (x1 : Vec Ideal S1x1x512 .f32) (x4 : Vec Ideal S512x352 .i8)
  (w : Vec Ideal S2816x1024 .bf16)

/-- The code of the block's token `p` at feature `f`. -/
noncomputable def codeBlock (p : Fin 512) (f : Fin 2816) : EReal :=
  Row.code (dhBlock x0 x1 x4 w p f) (inv x0 x1 x4 w p)

/-- The block's masked gradient and its codes, as arrays. -/
noncomputable def dhs : Vec Ideal S512x2816 .f32 := fun y => dhBlock x0 x1 x4 w (y 0) (y 1)
noncomputable def codes : Vec Ideal S512x2816 .fp8e5m2 := fun y => codeBlock x0 x1 x4 w (y 0) (y 1)

/-- A chunk's codes, as the kernel computes them. -/
noncomputable def codeChunk (j : ℕ) : FVec Ideal S512x128 .fp8e5m2 :=
  truncf .fp8e5m2
    (minimumf (broadcast S512x128 (Scalar.ofBits (F := Ideal) .f32 0x47600000#32))
      (maximumf (broadcast S512x128 (Scalar.ofBits (F := Ideal) .f32 0xC7600000#32))
        (mulf (chunk x0 x1 x4 w j) (invs x0 x1 x4 w))))
    bitsLt_fp8e5m2_f32

theorem chunk_tile (j : ℕ) (x : S512x128.Idx) (y : S512x2816.Idx) (h0 : (y 0).val = 0 + (x 0).val) (h1 : (y 1).val = 128 * j + (x 1).val) :
    chunk x0 x1 x4 w j x = dhs x0 x1 x4 w y := by
  have hy := (y 1).isLt
  have hlt : 128 * j + (x 1).val < 2816 := h1 ▸ hy
  refine (dif_pos hlt).trans ?_
  unfold dhs
  have e0 : x 0 = y 0 := Fin.ext (by omega)
  have e1 : (⟨128 * j + (x 1).val, hlt⟩ : Fin 2816) = y 1 := Fin.ext h1.symm
  rw [e0]
  exact congrArg _ e1

theorem codeChunk_tile (j : ℕ) (x : S512x128.Idx) (y : S512x2816.Idx) (h0 : (y 0).val = 0 + (x 0).val) (h1 : (y 1).val = 128 * j + (x 1).val) :
    codeChunk x0 x1 x4 w j x = codes x0 x1 x4 w y := by
  have h := chunk_tile x0 x1 x4 w j x y h0 h1
  have e0 : x 0 = y 0 := Fin.ext (by omega)
  unfold codeChunk
  pointwise
  rw [h]
  unfold invs
  rw [e0]
  rfl

theorem idx_unit (off size : Fin S512x2816.rank → ℕ) (inb : ∀ a, off a + size a ≤ S512x2816.size a)
    (x : (Rect.unit (s := S512x2816) off size inb).shape.Idx) (a : Fin S512x2816.rank) :
    ((Rect.unit (s := S512x2816) off size inb).idx x a).val = off a + (x a).val := by
  show off a + 1 * (x a : ℕ) = _
  omega

/-- The 22 stores of the masked gradient, the last first. -/
noncomputable def dhTiles : List (View.Piece (Elt Ideal) S512x2816 .f32) :=
  [⟨Rect.unit ![0, 2688] ![512, 128] inb_S512x2816_S512x128_0_2688, chunk x0 x1 x4 w 21⟩,
   ⟨Rect.unit ![0, 2560] ![512, 128] inb_S512x2816_S512x128_0_2560, chunk x0 x1 x4 w 20⟩,
   ⟨Rect.unit ![0, 2432] ![512, 128] inb_S512x2816_S512x128_0_2432, chunk x0 x1 x4 w 19⟩,
   ⟨Rect.unit ![0, 2304] ![512, 128] inb_S512x2816_S512x128_0_2304, chunk x0 x1 x4 w 18⟩,
   ⟨Rect.unit ![0, 2176] ![512, 128] inb_S512x2816_S512x128_0_2176, chunk x0 x1 x4 w 17⟩,
   ⟨Rect.unit ![0, 2048] ![512, 128] inb_S512x2816_S512x128_0_2048, chunk x0 x1 x4 w 16⟩,
   ⟨Rect.unit ![0, 1920] ![512, 128] inb_S512x2816_S512x128_0_1920, chunk x0 x1 x4 w 15⟩,
   ⟨Rect.unit ![0, 1792] ![512, 128] inb_S512x2816_S512x128_0_1792, chunk x0 x1 x4 w 14⟩,
   ⟨Rect.unit ![0, 1664] ![512, 128] inb_S512x2816_S512x128_0_1664, chunk x0 x1 x4 w 13⟩,
   ⟨Rect.unit ![0, 1536] ![512, 128] inb_S512x2816_S512x128_0_1536, chunk x0 x1 x4 w 12⟩,
   ⟨Rect.unit ![0, 1408] ![512, 128] inb_S512x2816_S512x128_0_1408, chunk x0 x1 x4 w 11⟩,
   ⟨Rect.unit ![0, 1280] ![512, 128] inb_S512x2816_S512x128_0_1280, chunk x0 x1 x4 w 10⟩,
   ⟨Rect.unit ![0, 1152] ![512, 128] inb_S512x2816_S512x128_0_1152, chunk x0 x1 x4 w 9⟩,
   ⟨Rect.unit ![0, 1024] ![512, 128] inb_S512x2816_S512x128_0_1024, chunk x0 x1 x4 w 8⟩,
   ⟨Rect.unit ![0, 896] ![512, 128] inb_S512x2816_S512x128_0_896, chunk x0 x1 x4 w 7⟩,
   ⟨Rect.unit ![0, 768] ![512, 128] inb_S512x2816_S512x128_0_768, chunk x0 x1 x4 w 6⟩,
   ⟨Rect.unit ![0, 640] ![512, 128] inb_S512x2816_S512x128_0_640, chunk x0 x1 x4 w 5⟩,
   ⟨Rect.unit ![0, 512] ![512, 128] inb_S512x2816_S512x128_0_512, chunk x0 x1 x4 w 4⟩,
   ⟨Rect.unit ![0, 384] ![512, 128] inb_S512x2816_S512x128_0_384, chunk x0 x1 x4 w 3⟩,
   ⟨Rect.unit ![0, 256] ![512, 128] inb_S512x2816_S512x128_0_256, chunk x0 x1 x4 w 2⟩,
   ⟨Rect.unit ![0, 128] ![512, 128] inb_S512x2816_S512x128_0_128, chunk x0 x1 x4 w 1⟩,
   ⟨Rect.unit ![0, 0] ![512, 128] inb_S512x2816_S512x128_0_0, chunk x0 x1 x4 w 0⟩]

/-- The 22 stores of the codes, the last first. -/
noncomputable def codeTiles : List (View.Piece (Elt Ideal) S512x2816 .fp8e5m2) :=
  [⟨Rect.unit ![0, 2688] ![512, 128] inb_S512x2816_S512x128_0_2688, codeChunk x0 x1 x4 w 21⟩,
   ⟨Rect.unit ![0, 2560] ![512, 128] inb_S512x2816_S512x128_0_2560, codeChunk x0 x1 x4 w 20⟩,
   ⟨Rect.unit ![0, 2432] ![512, 128] inb_S512x2816_S512x128_0_2432, codeChunk x0 x1 x4 w 19⟩,
   ⟨Rect.unit ![0, 2304] ![512, 128] inb_S512x2816_S512x128_0_2304, codeChunk x0 x1 x4 w 18⟩,
   ⟨Rect.unit ![0, 2176] ![512, 128] inb_S512x2816_S512x128_0_2176, codeChunk x0 x1 x4 w 17⟩,
   ⟨Rect.unit ![0, 2048] ![512, 128] inb_S512x2816_S512x128_0_2048, codeChunk x0 x1 x4 w 16⟩,
   ⟨Rect.unit ![0, 1920] ![512, 128] inb_S512x2816_S512x128_0_1920, codeChunk x0 x1 x4 w 15⟩,
   ⟨Rect.unit ![0, 1792] ![512, 128] inb_S512x2816_S512x128_0_1792, codeChunk x0 x1 x4 w 14⟩,
   ⟨Rect.unit ![0, 1664] ![512, 128] inb_S512x2816_S512x128_0_1664, codeChunk x0 x1 x4 w 13⟩,
   ⟨Rect.unit ![0, 1536] ![512, 128] inb_S512x2816_S512x128_0_1536, codeChunk x0 x1 x4 w 12⟩,
   ⟨Rect.unit ![0, 1408] ![512, 128] inb_S512x2816_S512x128_0_1408, codeChunk x0 x1 x4 w 11⟩,
   ⟨Rect.unit ![0, 1280] ![512, 128] inb_S512x2816_S512x128_0_1280, codeChunk x0 x1 x4 w 10⟩,
   ⟨Rect.unit ![0, 1152] ![512, 128] inb_S512x2816_S512x128_0_1152, codeChunk x0 x1 x4 w 9⟩,
   ⟨Rect.unit ![0, 1024] ![512, 128] inb_S512x2816_S512x128_0_1024, codeChunk x0 x1 x4 w 8⟩,
   ⟨Rect.unit ![0, 896] ![512, 128] inb_S512x2816_S512x128_0_896, codeChunk x0 x1 x4 w 7⟩,
   ⟨Rect.unit ![0, 768] ![512, 128] inb_S512x2816_S512x128_0_768, codeChunk x0 x1 x4 w 6⟩,
   ⟨Rect.unit ![0, 640] ![512, 128] inb_S512x2816_S512x128_0_640, codeChunk x0 x1 x4 w 5⟩,
   ⟨Rect.unit ![0, 512] ![512, 128] inb_S512x2816_S512x128_0_512, codeChunk x0 x1 x4 w 4⟩,
   ⟨Rect.unit ![0, 384] ![512, 128] inb_S512x2816_S512x128_0_384, codeChunk x0 x1 x4 w 3⟩,
   ⟨Rect.unit ![0, 256] ![512, 128] inb_S512x2816_S512x128_0_256, codeChunk x0 x1 x4 w 2⟩,
   ⟨Rect.unit ![0, 128] ![512, 128] inb_S512x2816_S512x128_0_128, codeChunk x0 x1 x4 w 1⟩,
   ⟨Rect.unit ![0, 0] ![512, 128] inb_S512x2816_S512x128_0_0, codeChunk x0 x1 x4 w 0⟩]

theorem dhTiles_fold :
    ([⟨Rect.unit ![0, 2688] ![512, 128] inb_S512x2816_S512x128_0_2688, chunk x0 x1 x4 w 21⟩,
     ⟨Rect.unit ![0, 2560] ![512, 128] inb_S512x2816_S512x128_0_2560, chunk x0 x1 x4 w 20⟩,
     ⟨Rect.unit ![0, 2432] ![512, 128] inb_S512x2816_S512x128_0_2432, chunk x0 x1 x4 w 19⟩,
     ⟨Rect.unit ![0, 2304] ![512, 128] inb_S512x2816_S512x128_0_2304, chunk x0 x1 x4 w 18⟩,
     ⟨Rect.unit ![0, 2176] ![512, 128] inb_S512x2816_S512x128_0_2176, chunk x0 x1 x4 w 17⟩,
     ⟨Rect.unit ![0, 2048] ![512, 128] inb_S512x2816_S512x128_0_2048, chunk x0 x1 x4 w 16⟩,
     ⟨Rect.unit ![0, 1920] ![512, 128] inb_S512x2816_S512x128_0_1920, chunk x0 x1 x4 w 15⟩,
     ⟨Rect.unit ![0, 1792] ![512, 128] inb_S512x2816_S512x128_0_1792, chunk x0 x1 x4 w 14⟩,
     ⟨Rect.unit ![0, 1664] ![512, 128] inb_S512x2816_S512x128_0_1664, chunk x0 x1 x4 w 13⟩,
     ⟨Rect.unit ![0, 1536] ![512, 128] inb_S512x2816_S512x128_0_1536, chunk x0 x1 x4 w 12⟩,
     ⟨Rect.unit ![0, 1408] ![512, 128] inb_S512x2816_S512x128_0_1408, chunk x0 x1 x4 w 11⟩,
     ⟨Rect.unit ![0, 1280] ![512, 128] inb_S512x2816_S512x128_0_1280, chunk x0 x1 x4 w 10⟩,
     ⟨Rect.unit ![0, 1152] ![512, 128] inb_S512x2816_S512x128_0_1152, chunk x0 x1 x4 w 9⟩,
     ⟨Rect.unit ![0, 1024] ![512, 128] inb_S512x2816_S512x128_0_1024, chunk x0 x1 x4 w 8⟩,
     ⟨Rect.unit ![0, 896] ![512, 128] inb_S512x2816_S512x128_0_896, chunk x0 x1 x4 w 7⟩,
     ⟨Rect.unit ![0, 768] ![512, 128] inb_S512x2816_S512x128_0_768, chunk x0 x1 x4 w 6⟩,
     ⟨Rect.unit ![0, 640] ![512, 128] inb_S512x2816_S512x128_0_640, chunk x0 x1 x4 w 5⟩,
     ⟨Rect.unit ![0, 512] ![512, 128] inb_S512x2816_S512x128_0_512, chunk x0 x1 x4 w 4⟩,
     ⟨Rect.unit ![0, 384] ![512, 128] inb_S512x2816_S512x128_0_384, chunk x0 x1 x4 w 3⟩,
     ⟨Rect.unit ![0, 256] ![512, 128] inb_S512x2816_S512x128_0_256, chunk x0 x1 x4 w 2⟩,
     ⟨Rect.unit ![0, 128] ![512, 128] inb_S512x2816_S512x128_0_128, chunk x0 x1 x4 w 1⟩,
     ⟨Rect.unit ![0, 0] ![512, 128] inb_S512x2816_S512x128_0_0, chunk x0 x1 x4 w 0⟩] : List (View.Piece (Elt Ideal) S512x2816 .f32)) = dhTiles x0 x1 x4 w := rfl

theorem canon_dhTiles : View.canon (dhTiles x0 x1 x4 w) = dhs x0 x1 x4 w := by
  funext y
  have hc := View.cover_of_tiled (dhTiles x0 x1 x4 w) ![512, 128] rfl y
  unfold dhTiles at hc ⊢
  canon_tiles x h using hc
  all_goals exact chunk_tile x0 x1 x4 w _ x y (by omega) (by omega)

theorem codeTiles_fold :
    ([⟨Rect.unit ![0, 2688] ![512, 128] inb_S512x2816_S512x128_0_2688, codeChunk x0 x1 x4 w 21⟩,
     ⟨Rect.unit ![0, 2560] ![512, 128] inb_S512x2816_S512x128_0_2560, codeChunk x0 x1 x4 w 20⟩,
     ⟨Rect.unit ![0, 2432] ![512, 128] inb_S512x2816_S512x128_0_2432, codeChunk x0 x1 x4 w 19⟩,
     ⟨Rect.unit ![0, 2304] ![512, 128] inb_S512x2816_S512x128_0_2304, codeChunk x0 x1 x4 w 18⟩,
     ⟨Rect.unit ![0, 2176] ![512, 128] inb_S512x2816_S512x128_0_2176, codeChunk x0 x1 x4 w 17⟩,
     ⟨Rect.unit ![0, 2048] ![512, 128] inb_S512x2816_S512x128_0_2048, codeChunk x0 x1 x4 w 16⟩,
     ⟨Rect.unit ![0, 1920] ![512, 128] inb_S512x2816_S512x128_0_1920, codeChunk x0 x1 x4 w 15⟩,
     ⟨Rect.unit ![0, 1792] ![512, 128] inb_S512x2816_S512x128_0_1792, codeChunk x0 x1 x4 w 14⟩,
     ⟨Rect.unit ![0, 1664] ![512, 128] inb_S512x2816_S512x128_0_1664, codeChunk x0 x1 x4 w 13⟩,
     ⟨Rect.unit ![0, 1536] ![512, 128] inb_S512x2816_S512x128_0_1536, codeChunk x0 x1 x4 w 12⟩,
     ⟨Rect.unit ![0, 1408] ![512, 128] inb_S512x2816_S512x128_0_1408, codeChunk x0 x1 x4 w 11⟩,
     ⟨Rect.unit ![0, 1280] ![512, 128] inb_S512x2816_S512x128_0_1280, codeChunk x0 x1 x4 w 10⟩,
     ⟨Rect.unit ![0, 1152] ![512, 128] inb_S512x2816_S512x128_0_1152, codeChunk x0 x1 x4 w 9⟩,
     ⟨Rect.unit ![0, 1024] ![512, 128] inb_S512x2816_S512x128_0_1024, codeChunk x0 x1 x4 w 8⟩,
     ⟨Rect.unit ![0, 896] ![512, 128] inb_S512x2816_S512x128_0_896, codeChunk x0 x1 x4 w 7⟩,
     ⟨Rect.unit ![0, 768] ![512, 128] inb_S512x2816_S512x128_0_768, codeChunk x0 x1 x4 w 6⟩,
     ⟨Rect.unit ![0, 640] ![512, 128] inb_S512x2816_S512x128_0_640, codeChunk x0 x1 x4 w 5⟩,
     ⟨Rect.unit ![0, 512] ![512, 128] inb_S512x2816_S512x128_0_512, codeChunk x0 x1 x4 w 4⟩,
     ⟨Rect.unit ![0, 384] ![512, 128] inb_S512x2816_S512x128_0_384, codeChunk x0 x1 x4 w 3⟩,
     ⟨Rect.unit ![0, 256] ![512, 128] inb_S512x2816_S512x128_0_256, codeChunk x0 x1 x4 w 2⟩,
     ⟨Rect.unit ![0, 128] ![512, 128] inb_S512x2816_S512x128_0_128, codeChunk x0 x1 x4 w 1⟩,
     ⟨Rect.unit ![0, 0] ![512, 128] inb_S512x2816_S512x128_0_0, codeChunk x0 x1 x4 w 0⟩] : List (View.Piece (Elt Ideal) S512x2816 .fp8e5m2)) = codeTiles x0 x1 x4 w := rfl

theorem canon_codeTiles : View.canon (codeTiles x0 x1 x4 w) = codes x0 x1 x4 w := by
  funext y
  have hc := View.cover_of_tiled (codeTiles x0 x1 x4 w) ![512, 128] rfl y
  unfold codeTiles at hc ⊢
  canon_tiles x h using hc
  all_goals exact codeChunk_tile x0 x1 x4 w _ x y (by omega) (by omega)

theorem readCov_dhTiles_0 {sig : RefSig} {κ : Kind} {sp : Space} (v : View sig κ sp S512x2816 .f32) :
    v.readCov (dhTiles x0 x1 x4 w) (Rect.unit (s := S512x2816) ![0, 0] ![512, 128] inb_S512x2816_S512x128_0_0).toLoadRect =
      chunk x0 x1 x4 w 0 := by
  refine (View.readCov_eq_canon' v _ _).trans ?_
  rw [canon_dhTiles]
  funext x
  exact (chunk_tile x0 x1 x4 w 0 x _ (idx_unit _ _ _ x 0) (idx_unit _ _ _ x 1)).symm

theorem readCov_dhTiles_1 {sig : RefSig} {κ : Kind} {sp : Space} (v : View sig κ sp S512x2816 .f32) :
    v.readCov (dhTiles x0 x1 x4 w) (Rect.unit (s := S512x2816) ![0, 128] ![512, 128] inb_S512x2816_S512x128_0_128).toLoadRect =
      chunk x0 x1 x4 w 1 := by
  refine (View.readCov_eq_canon' v _ _).trans ?_
  rw [canon_dhTiles]
  funext x
  exact (chunk_tile x0 x1 x4 w 1 x _ (idx_unit _ _ _ x 0) (idx_unit _ _ _ x 1)).symm

theorem readCov_dhTiles_2 {sig : RefSig} {κ : Kind} {sp : Space} (v : View sig κ sp S512x2816 .f32) :
    v.readCov (dhTiles x0 x1 x4 w) (Rect.unit (s := S512x2816) ![0, 256] ![512, 128] inb_S512x2816_S512x128_0_256).toLoadRect =
      chunk x0 x1 x4 w 2 := by
  refine (View.readCov_eq_canon' v _ _).trans ?_
  rw [canon_dhTiles]
  funext x
  exact (chunk_tile x0 x1 x4 w 2 x _ (idx_unit _ _ _ x 0) (idx_unit _ _ _ x 1)).symm

theorem readCov_dhTiles_3 {sig : RefSig} {κ : Kind} {sp : Space} (v : View sig κ sp S512x2816 .f32) :
    v.readCov (dhTiles x0 x1 x4 w) (Rect.unit (s := S512x2816) ![0, 384] ![512, 128] inb_S512x2816_S512x128_0_384).toLoadRect =
      chunk x0 x1 x4 w 3 := by
  refine (View.readCov_eq_canon' v _ _).trans ?_
  rw [canon_dhTiles]
  funext x
  exact (chunk_tile x0 x1 x4 w 3 x _ (idx_unit _ _ _ x 0) (idx_unit _ _ _ x 1)).symm

theorem readCov_dhTiles_4 {sig : RefSig} {κ : Kind} {sp : Space} (v : View sig κ sp S512x2816 .f32) :
    v.readCov (dhTiles x0 x1 x4 w) (Rect.unit (s := S512x2816) ![0, 512] ![512, 128] inb_S512x2816_S512x128_0_512).toLoadRect =
      chunk x0 x1 x4 w 4 := by
  refine (View.readCov_eq_canon' v _ _).trans ?_
  rw [canon_dhTiles]
  funext x
  exact (chunk_tile x0 x1 x4 w 4 x _ (idx_unit _ _ _ x 0) (idx_unit _ _ _ x 1)).symm

theorem readCov_dhTiles_5 {sig : RefSig} {κ : Kind} {sp : Space} (v : View sig κ sp S512x2816 .f32) :
    v.readCov (dhTiles x0 x1 x4 w) (Rect.unit (s := S512x2816) ![0, 640] ![512, 128] inb_S512x2816_S512x128_0_640).toLoadRect =
      chunk x0 x1 x4 w 5 := by
  refine (View.readCov_eq_canon' v _ _).trans ?_
  rw [canon_dhTiles]
  funext x
  exact (chunk_tile x0 x1 x4 w 5 x _ (idx_unit _ _ _ x 0) (idx_unit _ _ _ x 1)).symm

theorem readCov_dhTiles_6 {sig : RefSig} {κ : Kind} {sp : Space} (v : View sig κ sp S512x2816 .f32) :
    v.readCov (dhTiles x0 x1 x4 w) (Rect.unit (s := S512x2816) ![0, 768] ![512, 128] inb_S512x2816_S512x128_0_768).toLoadRect =
      chunk x0 x1 x4 w 6 := by
  refine (View.readCov_eq_canon' v _ _).trans ?_
  rw [canon_dhTiles]
  funext x
  exact (chunk_tile x0 x1 x4 w 6 x _ (idx_unit _ _ _ x 0) (idx_unit _ _ _ x 1)).symm

theorem readCov_dhTiles_7 {sig : RefSig} {κ : Kind} {sp : Space} (v : View sig κ sp S512x2816 .f32) :
    v.readCov (dhTiles x0 x1 x4 w) (Rect.unit (s := S512x2816) ![0, 896] ![512, 128] inb_S512x2816_S512x128_0_896).toLoadRect =
      chunk x0 x1 x4 w 7 := by
  refine (View.readCov_eq_canon' v _ _).trans ?_
  rw [canon_dhTiles]
  funext x
  exact (chunk_tile x0 x1 x4 w 7 x _ (idx_unit _ _ _ x 0) (idx_unit _ _ _ x 1)).symm

theorem readCov_dhTiles_8 {sig : RefSig} {κ : Kind} {sp : Space} (v : View sig κ sp S512x2816 .f32) :
    v.readCov (dhTiles x0 x1 x4 w) (Rect.unit (s := S512x2816) ![0, 1024] ![512, 128] inb_S512x2816_S512x128_0_1024).toLoadRect =
      chunk x0 x1 x4 w 8 := by
  refine (View.readCov_eq_canon' v _ _).trans ?_
  rw [canon_dhTiles]
  funext x
  exact (chunk_tile x0 x1 x4 w 8 x _ (idx_unit _ _ _ x 0) (idx_unit _ _ _ x 1)).symm

theorem readCov_dhTiles_9 {sig : RefSig} {κ : Kind} {sp : Space} (v : View sig κ sp S512x2816 .f32) :
    v.readCov (dhTiles x0 x1 x4 w) (Rect.unit (s := S512x2816) ![0, 1152] ![512, 128] inb_S512x2816_S512x128_0_1152).toLoadRect =
      chunk x0 x1 x4 w 9 := by
  refine (View.readCov_eq_canon' v _ _).trans ?_
  rw [canon_dhTiles]
  funext x
  exact (chunk_tile x0 x1 x4 w 9 x _ (idx_unit _ _ _ x 0) (idx_unit _ _ _ x 1)).symm

theorem readCov_dhTiles_10 {sig : RefSig} {κ : Kind} {sp : Space} (v : View sig κ sp S512x2816 .f32) :
    v.readCov (dhTiles x0 x1 x4 w) (Rect.unit (s := S512x2816) ![0, 1280] ![512, 128] inb_S512x2816_S512x128_0_1280).toLoadRect =
      chunk x0 x1 x4 w 10 := by
  refine (View.readCov_eq_canon' v _ _).trans ?_
  rw [canon_dhTiles]
  funext x
  exact (chunk_tile x0 x1 x4 w 10 x _ (idx_unit _ _ _ x 0) (idx_unit _ _ _ x 1)).symm

theorem readCov_dhTiles_11 {sig : RefSig} {κ : Kind} {sp : Space} (v : View sig κ sp S512x2816 .f32) :
    v.readCov (dhTiles x0 x1 x4 w) (Rect.unit (s := S512x2816) ![0, 1408] ![512, 128] inb_S512x2816_S512x128_0_1408).toLoadRect =
      chunk x0 x1 x4 w 11 := by
  refine (View.readCov_eq_canon' v _ _).trans ?_
  rw [canon_dhTiles]
  funext x
  exact (chunk_tile x0 x1 x4 w 11 x _ (idx_unit _ _ _ x 0) (idx_unit _ _ _ x 1)).symm

theorem readCov_dhTiles_12 {sig : RefSig} {κ : Kind} {sp : Space} (v : View sig κ sp S512x2816 .f32) :
    v.readCov (dhTiles x0 x1 x4 w) (Rect.unit (s := S512x2816) ![0, 1536] ![512, 128] inb_S512x2816_S512x128_0_1536).toLoadRect =
      chunk x0 x1 x4 w 12 := by
  refine (View.readCov_eq_canon' v _ _).trans ?_
  rw [canon_dhTiles]
  funext x
  exact (chunk_tile x0 x1 x4 w 12 x _ (idx_unit _ _ _ x 0) (idx_unit _ _ _ x 1)).symm

theorem readCov_dhTiles_13 {sig : RefSig} {κ : Kind} {sp : Space} (v : View sig κ sp S512x2816 .f32) :
    v.readCov (dhTiles x0 x1 x4 w) (Rect.unit (s := S512x2816) ![0, 1664] ![512, 128] inb_S512x2816_S512x128_0_1664).toLoadRect =
      chunk x0 x1 x4 w 13 := by
  refine (View.readCov_eq_canon' v _ _).trans ?_
  rw [canon_dhTiles]
  funext x
  exact (chunk_tile x0 x1 x4 w 13 x _ (idx_unit _ _ _ x 0) (idx_unit _ _ _ x 1)).symm

theorem readCov_dhTiles_14 {sig : RefSig} {κ : Kind} {sp : Space} (v : View sig κ sp S512x2816 .f32) :
    v.readCov (dhTiles x0 x1 x4 w) (Rect.unit (s := S512x2816) ![0, 1792] ![512, 128] inb_S512x2816_S512x128_0_1792).toLoadRect =
      chunk x0 x1 x4 w 14 := by
  refine (View.readCov_eq_canon' v _ _).trans ?_
  rw [canon_dhTiles]
  funext x
  exact (chunk_tile x0 x1 x4 w 14 x _ (idx_unit _ _ _ x 0) (idx_unit _ _ _ x 1)).symm

theorem readCov_dhTiles_15 {sig : RefSig} {κ : Kind} {sp : Space} (v : View sig κ sp S512x2816 .f32) :
    v.readCov (dhTiles x0 x1 x4 w) (Rect.unit (s := S512x2816) ![0, 1920] ![512, 128] inb_S512x2816_S512x128_0_1920).toLoadRect =
      chunk x0 x1 x4 w 15 := by
  refine (View.readCov_eq_canon' v _ _).trans ?_
  rw [canon_dhTiles]
  funext x
  exact (chunk_tile x0 x1 x4 w 15 x _ (idx_unit _ _ _ x 0) (idx_unit _ _ _ x 1)).symm

theorem readCov_dhTiles_16 {sig : RefSig} {κ : Kind} {sp : Space} (v : View sig κ sp S512x2816 .f32) :
    v.readCov (dhTiles x0 x1 x4 w) (Rect.unit (s := S512x2816) ![0, 2048] ![512, 128] inb_S512x2816_S512x128_0_2048).toLoadRect =
      chunk x0 x1 x4 w 16 := by
  refine (View.readCov_eq_canon' v _ _).trans ?_
  rw [canon_dhTiles]
  funext x
  exact (chunk_tile x0 x1 x4 w 16 x _ (idx_unit _ _ _ x 0) (idx_unit _ _ _ x 1)).symm

theorem readCov_dhTiles_17 {sig : RefSig} {κ : Kind} {sp : Space} (v : View sig κ sp S512x2816 .f32) :
    v.readCov (dhTiles x0 x1 x4 w) (Rect.unit (s := S512x2816) ![0, 2176] ![512, 128] inb_S512x2816_S512x128_0_2176).toLoadRect =
      chunk x0 x1 x4 w 17 := by
  refine (View.readCov_eq_canon' v _ _).trans ?_
  rw [canon_dhTiles]
  funext x
  exact (chunk_tile x0 x1 x4 w 17 x _ (idx_unit _ _ _ x 0) (idx_unit _ _ _ x 1)).symm

theorem readCov_dhTiles_18 {sig : RefSig} {κ : Kind} {sp : Space} (v : View sig κ sp S512x2816 .f32) :
    v.readCov (dhTiles x0 x1 x4 w) (Rect.unit (s := S512x2816) ![0, 2304] ![512, 128] inb_S512x2816_S512x128_0_2304).toLoadRect =
      chunk x0 x1 x4 w 18 := by
  refine (View.readCov_eq_canon' v _ _).trans ?_
  rw [canon_dhTiles]
  funext x
  exact (chunk_tile x0 x1 x4 w 18 x _ (idx_unit _ _ _ x 0) (idx_unit _ _ _ x 1)).symm

theorem readCov_dhTiles_19 {sig : RefSig} {κ : Kind} {sp : Space} (v : View sig κ sp S512x2816 .f32) :
    v.readCov (dhTiles x0 x1 x4 w) (Rect.unit (s := S512x2816) ![0, 2432] ![512, 128] inb_S512x2816_S512x128_0_2432).toLoadRect =
      chunk x0 x1 x4 w 19 := by
  refine (View.readCov_eq_canon' v _ _).trans ?_
  rw [canon_dhTiles]
  funext x
  exact (chunk_tile x0 x1 x4 w 19 x _ (idx_unit _ _ _ x 0) (idx_unit _ _ _ x 1)).symm

theorem readCov_dhTiles_20 {sig : RefSig} {κ : Kind} {sp : Space} (v : View sig κ sp S512x2816 .f32) :
    v.readCov (dhTiles x0 x1 x4 w) (Rect.unit (s := S512x2816) ![0, 2560] ![512, 128] inb_S512x2816_S512x128_0_2560).toLoadRect =
      chunk x0 x1 x4 w 20 := by
  refine (View.readCov_eq_canon' v _ _).trans ?_
  rw [canon_dhTiles]
  funext x
  exact (chunk_tile x0 x1 x4 w 20 x _ (idx_unit _ _ _ x 0) (idx_unit _ _ _ x 1)).symm

theorem readCov_dhTiles_21 {sig : RefSig} {κ : Kind} {sp : Space} (v : View sig κ sp S512x2816 .f32) :
    v.readCov (dhTiles x0 x1 x4 w) (Rect.unit (s := S512x2816) ![0, 2688] ![512, 128] inb_S512x2816_S512x128_0_2688).toLoadRect =
      chunk x0 x1 x4 w 21 := by
  refine (View.readCov_eq_canon' v _ _).trans ?_
  rw [canon_dhTiles]
  funext x
  exact (chunk_tile x0 x1 x4 w 21 x _ (idx_unit _ _ _ x 0) (idx_unit _ _ _ x 1)).symm

theorem code_0 : k0_pay118 (F := Ideal) (invs x0 x1 x4 w) (chunk x0 x1 x4 w 0) = codeChunk x0 x1 x4 w 0 := by
  rw [codeChunk]
  simp only [k0_pay118, shapeCast_id]

theorem code_1 : k0_pay119 (F := Ideal) (invs x0 x1 x4 w) (chunk x0 x1 x4 w 1) = codeChunk x0 x1 x4 w 1 := by
  rw [codeChunk]
  simp only [k0_pay119, shapeCast_id]

theorem code_2 : k0_pay121 (k0_pay120 (F := Ideal) (invs x0 x1 x4 w) (chunk x0 x1 x4 w 2)) = codeChunk x0 x1 x4 w 2 := by
  rw [codeChunk]
  simp only [k0_pay120, k0_pay121, shapeCast_id]

theorem code_3 : k0_pay122 (F := Ideal) (invs x0 x1 x4 w) (chunk x0 x1 x4 w 3) = codeChunk x0 x1 x4 w 3 := by
  rw [codeChunk]
  simp only [k0_pay122, shapeCast_id]

theorem code_4 : k0_pay123 (F := Ideal) (invs x0 x1 x4 w) (chunk x0 x1 x4 w 4) = codeChunk x0 x1 x4 w 4 := by
  rw [codeChunk]
  simp only [k0_pay123, shapeCast_id]

theorem code_5 : k0_pay124 (F := Ideal) (invs x0 x1 x4 w) (chunk x0 x1 x4 w 5) = codeChunk x0 x1 x4 w 5 := by
  rw [codeChunk]
  simp only [k0_pay124, shapeCast_id]

theorem code_6 : k0_pay126 (k0_pay125 (F := Ideal) (invs x0 x1 x4 w) (chunk x0 x1 x4 w 6)) = codeChunk x0 x1 x4 w 6 := by
  rw [codeChunk]
  simp only [k0_pay125, k0_pay126, shapeCast_id]

theorem code_7 : k0_pay127 (F := Ideal) (invs x0 x1 x4 w) (chunk x0 x1 x4 w 7) = codeChunk x0 x1 x4 w 7 := by
  rw [codeChunk]
  simp only [k0_pay127, shapeCast_id]

theorem code_8 : k0_pay128 (F := Ideal) (invs x0 x1 x4 w) (chunk x0 x1 x4 w 8) = codeChunk x0 x1 x4 w 8 := by
  rw [codeChunk]
  simp only [k0_pay128, shapeCast_id]

theorem code_9 : k0_pay129 (F := Ideal) (invs x0 x1 x4 w) (chunk x0 x1 x4 w 9) = codeChunk x0 x1 x4 w 9 := by
  rw [codeChunk]
  simp only [k0_pay129, shapeCast_id]

theorem code_10 : k0_pay131 (k0_pay130 (F := Ideal) (invs x0 x1 x4 w) (chunk x0 x1 x4 w 10)) = codeChunk x0 x1 x4 w 10 := by
  rw [codeChunk]
  simp only [k0_pay130, k0_pay131, shapeCast_id]

theorem code_11 : k0_pay132 (F := Ideal) (invs x0 x1 x4 w) (chunk x0 x1 x4 w 11) = codeChunk x0 x1 x4 w 11 := by
  rw [codeChunk]
  simp only [k0_pay132, shapeCast_id]

theorem code_12 : k0_pay133 (F := Ideal) (invs x0 x1 x4 w) (chunk x0 x1 x4 w 12) = codeChunk x0 x1 x4 w 12 := by
  rw [codeChunk]
  simp only [k0_pay133, shapeCast_id]

theorem code_13 : k0_pay134 (F := Ideal) (invs x0 x1 x4 w) (chunk x0 x1 x4 w 13) = codeChunk x0 x1 x4 w 13 := by
  rw [codeChunk]
  simp only [k0_pay134, shapeCast_id]

theorem code_14 : k0_pay136 (k0_pay135 (F := Ideal) (invs x0 x1 x4 w) (chunk x0 x1 x4 w 14)) = codeChunk x0 x1 x4 w 14 := by
  rw [codeChunk]
  simp only [k0_pay135, k0_pay136, shapeCast_id]

theorem code_15 : k0_pay137 (F := Ideal) (invs x0 x1 x4 w) (chunk x0 x1 x4 w 15) = codeChunk x0 x1 x4 w 15 := by
  rw [codeChunk]
  simp only [k0_pay137, shapeCast_id]

theorem code_16 : k0_pay138 (F := Ideal) (invs x0 x1 x4 w) (chunk x0 x1 x4 w 16) = codeChunk x0 x1 x4 w 16 := by
  rw [codeChunk]
  simp only [k0_pay138, shapeCast_id]

theorem code_17 : k0_pay139 (F := Ideal) (invs x0 x1 x4 w) (chunk x0 x1 x4 w 17) = codeChunk x0 x1 x4 w 17 := by
  rw [codeChunk]
  simp only [k0_pay139, shapeCast_id]

theorem code_18 : k0_pay141 (k0_pay140 (F := Ideal) (invs x0 x1 x4 w) (chunk x0 x1 x4 w 18)) = codeChunk x0 x1 x4 w 18 := by
  rw [codeChunk]
  simp only [k0_pay140, k0_pay141, shapeCast_id]

theorem code_19 : k0_pay142 (F := Ideal) (invs x0 x1 x4 w) (chunk x0 x1 x4 w 19) = codeChunk x0 x1 x4 w 19 := by
  rw [codeChunk]
  simp only [k0_pay142, shapeCast_id]

theorem code_20 : k0_pay143 (F := Ideal) (invs x0 x1 x4 w) (chunk x0 x1 x4 w 20) = codeChunk x0 x1 x4 w 20 := by
  rw [codeChunk]
  simp only [k0_pay143, shapeCast_id]

theorem code_21 : k0_pay144 (F := Ideal) (invs x0 x1 x4 w) (chunk x0 x1 x4 w 21) = codeChunk x0 x1 x4 w 21 := by
  rw [codeChunk]
  simp only [k0_pay144, shapeCast_id]

end Cert.KernelIdeal.Block
-- ==== Proof.Grad.lean ====
/-
  THE TWO PRODUCTS of a block. `dxPiece`: the codes times the first weight, scaled by the token's scale and the weight's,
  128 columns at a time. `dwPiece`: 256 rows of the second weight's gradient, what they held plus the block's tokens.
  `lanes_*`: a token's scale, put back from a column into a row.
-/
module

public import proofs.«01_k».proof.Proof.Tiles

@[expose] public section

namespace Cert.KernelIdeal.Block

open Idealize.ShloMosaic Idealize.SL.Sem Cert.KernelIdeal.Gen

variable (x0 : Vec Ideal S512x1024 .fp8e5m2) (x1 : Vec Ideal S1x1x512 .f32) (x2 : Vec Ideal S512x2816 .fp8e4m3)
  (x3 : Vec Ideal S1x1x512 .f32) (x4 : Vec Ideal S512x352 .i8) (x5 : Vec Ideal S1024x2816 .fp8e4m3)
  (x6 : Vec Ideal S1x1024 .f32) (w : Vec Ideal S2816x1024 .bf16)

theorem pay6_apply (p : Fin 512) (l : Fin 128) : k0_pay6 x3 (ix2 p l) = x3 (ix3 0 0 p) := pay5_apply x3 p l

/-- The incoming gradient of the block, descaled. -/
noncomputable def gy : FVec Ideal S512x1024 .bf16 := fun y => x0 y * x1 (ix3 0 0 (y 0))

theorem gy_eq : k0_pay163 (F := Ideal) (k0_pay7 x0) (k0_pay156 (k0_pay5 x1)) (k0_pay158 (k0_pay5 x1) (k0_pay7 x0))
    (k0_pay159 (k0_pay5 x1) (k0_pay7 x0)) (k0_pay160 (k0_pay5 x1) (k0_pay7 x0)) (k0_pay161 (k0_pay5 x1) (k0_pay7 x0))
    (k0_pay162 (k0_pay7 x0)) = gy x0 x1 := by
  funext y
  rw [eq_ix2 y]
  generalize hp : y 0 = p
  generalize hl : y 1 = l
  unfold gy
  pointwise [k0_pay163, k0_pay158, k0_pay159, k0_pay160, k0_pay161, k0_pay162, k0_pay156, k0_pay7, pay5_apply]
  split_ifs <;> first | rfl | (congr 3; apply Fin.ext; simp only; omega)

/-- What 256 rows of the gradient of the second weight held, plus the block's tokens. -/
noncomputable def dwPiece (m : ℕ) (P : Vec Ideal S256x1024 .f32) : FVec Ideal S256x1024 .f32 := fun y =>
  P y + if h : 256 * m + (y 0).val < 2816 then
    ∑ p : Fin 512, x2 (ix2 p ⟨256 * m + (y 0).val, h⟩) * x3 (ix3 0 0 p) * gy x0 x1 (ix2 p (y 1)) else 0

theorem dw_core (m : ℕ) (hm : m < 11) (off : Fin 2 → ℕ) (inb) (hoff : off = ![0, 256 * m]) (P : Vec Ideal S256x1024 .f32) :
    k0_pay168 (F := Ideal) (k0_pay157 (k0_pay6 x3)) (gy x0 x1)
      (View.ld (Val := Elt Ideal) (e' := .fp8e4m3) x2 (Rect.unit (s := S512x2816) off S512x256.size inb)) P
      = dwPiece x0 x1 x2 x3 m P := by
  subst hoff
  funext y
  rw [eq_ix2 y]
  generalize hp : y 0 = c
  generalize hl : y 1 = d
  have hc : 256 * m + c.val < 2816 := by have h : c.val < 256 := c.isLt; omega
  have hld : ∀ (p : Fin 512) (c' : Fin 256) (h : 256 * m + c'.val < 2816),
      View.ld (Val := Elt Ideal) (e' := .fp8e4m3) x2 (Rect.unit (s := S512x2816) ![0, 256 * m] S512x256.size inb) (ix2 p c')
        = x2 (ix2 p ⟨256 * m + c'.val, h⟩) := by
    intro p c' h
    refine View.ld_unit_apply_of x2 _ _ _ _ _ fun a => ?_
    match a with
    | ⟨0, _⟩ => exact (Nat.zero_add _).symm
    | ⟨1, _⟩ => rfl
  unfold dwPiece
  rw [dif_pos (show 256 * m + ((ix2 c d : S256x1024.Idx) 0).val < 2816 from hc)]
  pointwise [k0_pay168, k0_pay157, pay6_apply]
  refine congrArg _ (Finset.sum_congr rfl fun x _ => ?_)
  split_ifs <;> first | rfl | exact absurd rfl ‹_› | (congr 4; apply Fin.ext; simp only; omega)

theorem dw_0 (P : Vec Ideal S256x1024 .f32) :
    k0_pay164 (F := Ideal) (k0_pay7 x0) (k0_pay156 (k0_pay5 x1)) (k0_pay157 (k0_pay6 x3)) (k0_pay158 (k0_pay5 x1) (k0_pay7 x0)) (k0_pay159 (k0_pay5 x1) (k0_pay7 x0)) (k0_pay160 (k0_pay5 x1) (k0_pay7 x0)) (k0_pay161 (k0_pay5 x1) (k0_pay7 x0)) (k0_pay162 (k0_pay7 x0)) (View.ld (Val := Elt Ideal) (e' := .fp8e4m3) x2 (Rect.unit (s := S512x2816) ![0, 0] S512x256.size inb_S512x2816_S512x256_0_0)) P
      = dwPiece x0 x1 x2 x3 0 P := by
  unfold k0_pay164
  rw [gy_eq]
  exact dw_core x0 x1 x2 x3 0 (by norm_num) _ inb_S512x2816_S512x256_0_0 rfl P

theorem dw_1 (P : Vec Ideal S256x1024 .f32) :
    k0_pay165 (F := Ideal) (k0_pay7 x0) (k0_pay156 (k0_pay5 x1)) (k0_pay157 (k0_pay6 x3)) (k0_pay158 (k0_pay5 x1) (k0_pay7 x0)) (k0_pay159 (k0_pay5 x1) (k0_pay7 x0)) (k0_pay160 (k0_pay5 x1) (k0_pay7 x0)) (k0_pay161 (k0_pay5 x1) (k0_pay7 x0)) (k0_pay162 (k0_pay7 x0)) (View.ld (Val := Elt Ideal) (e' := .fp8e4m3) x2 (Rect.unit (s := S512x2816) ![0, 256] S512x256.size inb_S512x2816_S512x256_0_256)) P
      = dwPiece x0 x1 x2 x3 1 P := by
  unfold k0_pay165
  rw [gy_eq]
  exact dw_core x0 x1 x2 x3 1 (by norm_num) _ inb_S512x2816_S512x256_0_256 rfl P

theorem dw_2 (P : Vec Ideal S256x1024 .f32) :
    k0_pay167 (F := Ideal) (gy x0 x1) (k0_pay166 (k0_pay157 (k0_pay6 x3)) (View.ld (Val := Elt Ideal) (e' := .fp8e4m3) x2 (Rect.unit (s := S512x2816) ![0, 512] S512x256.size inb_S512x2816_S512x256_0_512))) P
      = dwPiece x0 x1 x2 x3 2 P := by
  exact dw_core x0 x1 x2 x3 2 (by norm_num) _ inb_S512x2816_S512x256_0_512 rfl P

theorem dw_3 (P : Vec Ideal S256x1024 .f32) :
    k0_pay168 (F := Ideal) (k0_pay157 (k0_pay6 x3)) (gy x0 x1) (View.ld (Val := Elt Ideal) (e' := .fp8e4m3) x2 (Rect.unit (s := S512x2816) ![0, 768] S512x256.size inb_S512x2816_S512x256_0_768)) P
      = dwPiece x0 x1 x2 x3 3 P := by
  exact dw_core x0 x1 x2 x3 3 (by norm_num) _ inb_S512x2816_S512x256_0_768 rfl P

theorem dw_4 (P : Vec Ideal S256x1024 .f32) :
    k0_pay169 (F := Ideal) (k0_pay157 (k0_pay6 x3)) (gy x0 x1) (View.ld (Val := Elt Ideal) (e' := .fp8e4m3) x2 (Rect.unit (s := S512x2816) ![0, 1024] S512x256.size inb_S512x2816_S512x256_0_1024)) P
      = dwPiece x0 x1 x2 x3 4 P := by
  exact dw_core x0 x1 x2 x3 4 (by norm_num) _ inb_S512x2816_S512x256_0_1024 rfl P

theorem dw_5 (P : Vec Ideal S256x1024 .f32) :
    k0_pay172 (F := Ideal) (k0_pay157 (k0_pay6 x3)) (gy x0 x1) (k0_pay170 (View.ld (Val := Elt Ideal) (e' := .fp8e4m3) x2 (Rect.unit (s := S512x2816) ![0, 1280] S512x256.size inb_S512x2816_S512x256_0_1280))) (k0_pay171 (k0_pay157 (k0_pay6 x3)) (View.ld (Val := Elt Ideal) (e' := .fp8e4m3) x2 (Rect.unit (s := S512x2816) ![0, 1280] S512x256.size inb_S512x2816_S512x256_0_1280))) P
      = dwPiece x0 x1 x2 x3 5 P := by
  exact dw_core x0 x1 x2 x3 5 (by norm_num) _ inb_S512x2816_S512x256_0_1280 rfl P

theorem dw_6 (P : Vec Ideal S256x1024 .f32) :
    k0_pay173 (F := Ideal) (k0_pay157 (k0_pay6 x3)) (gy x0 x1) (View.ld (Val := Elt Ideal) (e' := .fp8e4m3) x2 (Rect.unit (s := S512x2816) ![0, 1536] S512x256.size inb_S512x2816_S512x256_0_1536)) P
      = dwPiece x0 x1 x2 x3 6 P := by
  exact dw_core x0 x1 x2 x3 6 (by norm_num) _ inb_S512x2816_S512x256_0_1536 rfl P

theorem dw_7 (P : Vec Ideal S256x1024 .f32) :
    k0_pay174 (F := Ideal) (k0_pay157 (k0_pay6 x3)) (gy x0 x1) (View.ld (Val := Elt Ideal) (e' := .fp8e4m3) x2 (Rect.unit (s := S512x2816) ![0, 1792] S512x256.size inb_S512x2816_S512x256_0_1792)) P
      = dwPiece x0 x1 x2 x3 7 P := by
  exact dw_core x0 x1 x2 x3 7 (by norm_num) _ inb_S512x2816_S512x256_0_1792 rfl P

theorem dw_8 (P : Vec Ideal S256x1024 .f32) :
    k0_pay176 (F := Ideal) (k0_pay157 (k0_pay6 x3)) (gy x0 x1) (k0_pay175 (View.ld (Val := Elt Ideal) (e' := .fp8e4m3) x2 (Rect.unit (s := S512x2816) ![0, 2048] S512x256.size inb_S512x2816_S512x256_0_2048))) P
      = dwPiece x0 x1 x2 x3 8 P := by
  exact dw_core x0 x1 x2 x3 8 (by norm_num) _ inb_S512x2816_S512x256_0_2048 rfl P

theorem dw_9 (P : Vec Ideal S256x1024 .f32) :
    k0_pay1 (F := Ideal) (gy x0 x1) (k0_pay177 (k0_pay157 (k0_pay6 x3)) (View.ld (Val := Elt Ideal) (e' := .fp8e4m3) x2 (Rect.unit (s := S512x2816) ![0, 2304] S512x256.size inb_S512x2816_S512x256_0_2304))) (k0_pay178 P) (constant S256x1024 .f32 0x00000000#32)
      = dwPiece x0 x1 x2 x3 9 P := by
  exact dw_core x0 x1 x2 x3 9 (by norm_num) _ inb_S512x2816_S512x256_0_2304 rfl P

theorem dw_10 (P : Vec Ideal S256x1024 .f32) :
    k0_pay2 (F := Ideal) (k0_pay157 (k0_pay6 x3)) (gy x0 x1) (View.ld (Val := Elt Ideal) (e' := .fp8e4m3) x2 (Rect.unit (s := S512x2816) ![0, 2560] S512x256.size inb_S512x2816_S512x256_0_2560)) P
      = dwPiece x0 x1 x2 x3 10 P := by
  exact dw_core x0 x1 x2 x3 10 (by norm_num) _ inb_S512x2816_S512x256_0_2560 rfl P

/-- 128 columns of the gradient of the block's input. -/
noncomputable def dxPiece (m : ℕ) : FVec Ideal S512x128 .bf16 := fun y =>
  if h : 128 * m + (y 1).val < 1024 then
    (∑ f : Fin 2816, codeBlock x0 x1 x4 w (y 0) f * x5 (ix2 ⟨128 * m + (y 1).val, h⟩ f)) * scale x0 x1 x4 w (y 0)
      * x6 (ix2 0 ⟨128 * m + (y 1).val, h⟩) else 0

theorem dx_0 : k0_pay147 (F := Ideal) (scales x0 x1 x4 w) (k0_pay145 (codes x0 x1 x4 w)) x5 (View.ld (Val := Elt Ideal) (e' := .f32) x6 (Rect.unit (s := S1x1024) ![0, 0] S1x128.size inb_S1x1024_S1x128_0_0)) = dxPiece x0 x1 x4 x5 x6 w 0 := by
  funext y
  rw [eq_ix2 y]
  generalize hp : y 0 = p
  generalize hl : y 1 = l
  have hc : 0 + l.val < 1024 := by have h : l.val < 128 := l.isLt; omega
  have hld : View.ld (Val := Elt Ideal) (e' := .f32) x6 (Rect.unit (s := S1x1024) ![0, 0] S1x128.size inb_S1x1024_S1x128_0_0) (ix2 0 l)
      = x6 (ix2 0 ⟨0 + l.val, hc⟩) := by
    refine View.ld_unit_apply_of x6 _ _ _ _ _ fun a => ?_
    match a with
    | ⟨0, _⟩ => rfl
    | ⟨1, _⟩ => rfl
  unfold dxPiece
  rw [dif_pos (show 128 * 0 + ((ix2 p l : S512x128.Idx) 1).val < 1024 from hc)]
  pointwise [k0_pay147, k0_pay146, k0_pay145, hld]
  rfl

theorem dx_1 : k0_pay148 (F := Ideal) (scales x0 x1 x4 w) (k0_pay145 (codes x0 x1 x4 w)) x5 (View.ld (Val := Elt Ideal) (e' := .f32) x6 (Rect.unit (s := S1x1024) ![0, 128] S1x128.size inb_S1x1024_S1x128_0_128)) = dxPiece x0 x1 x4 x5 x6 w 1 := by
  funext y
  rw [eq_ix2 y]
  generalize hp : y 0 = p
  generalize hl : y 1 = l
  have hc : 128 + l.val < 1024 := by have h : l.val < 128 := l.isLt; omega
  have hld : View.ld (Val := Elt Ideal) (e' := .f32) x6 (Rect.unit (s := S1x1024) ![0, 128] S1x128.size inb_S1x1024_S1x128_0_128) (ix2 0 l)
      = x6 (ix2 0 ⟨128 + l.val, hc⟩) := by
    refine View.ld_unit_apply_of x6 _ _ _ _ _ fun a => ?_
    match a with
    | ⟨0, _⟩ => rfl
    | ⟨1, _⟩ => rfl
  unfold dxPiece
  rw [dif_pos (show 128 * 1 + ((ix2 p l : S512x128.Idx) 1).val < 1024 from hc)]
  pointwise [k0_pay148, k0_pay146, k0_pay145, hld]
  rfl

theorem dx_2 : k0_pay149 (F := Ideal) (scales x0 x1 x4 w) (k0_pay145 (codes x0 x1 x4 w)) x5 (View.ld (Val := Elt Ideal) (e' := .f32) x6 (Rect.unit (s := S1x1024) ![0, 256] S1x128.size inb_S1x1024_S1x128_0_256)) = dxPiece x0 x1 x4 x5 x6 w 2 := by
  funext y
  rw [eq_ix2 y]
  generalize hp : y 0 = p
  generalize hl : y 1 = l
  have hc : 256 + l.val < 1024 := by have h : l.val < 128 := l.isLt; omega
  have hld : View.ld (Val := Elt Ideal) (e' := .f32) x6 (Rect.unit (s := S1x1024) ![0, 256] S1x128.size inb_S1x1024_S1x128_0_256) (ix2 0 l)
      = x6 (ix2 0 ⟨256 + l.val, hc⟩) := by
    refine View.ld_unit_apply_of x6 _ _ _ _ _ fun a => ?_
    match a with
    | ⟨0, _⟩ => rfl
    | ⟨1, _⟩ => rfl
  unfold dxPiece
  rw [dif_pos (show 128 * 2 + ((ix2 p l : S512x128.Idx) 1).val < 1024 from hc)]
  pointwise [k0_pay149, k0_pay146, k0_pay145, hld]
  rfl

theorem dx_3 : k0_pay150 (F := Ideal) (scales x0 x1 x4 w) (k0_pay145 (codes x0 x1 x4 w)) x5 (View.ld (Val := Elt Ideal) (e' := .f32) x6 (Rect.unit (s := S1x1024) ![0, 384] S1x128.size inb_S1x1024_S1x128_0_384)) = dxPiece x0 x1 x4 x5 x6 w 3 := by
  funext y
  rw [eq_ix2 y]
  generalize hp : y 0 = p
  generalize hl : y 1 = l
  have hc : 384 + l.val < 1024 := by have h : l.val < 128 := l.isLt; omega
  have hld : View.ld (Val := Elt Ideal) (e' := .f32) x6 (Rect.unit (s := S1x1024) ![0, 384] S1x128.size inb_S1x1024_S1x128_0_384) (ix2 0 l)
      = x6 (ix2 0 ⟨384 + l.val, hc⟩) := by
    refine View.ld_unit_apply_of x6 _ _ _ _ _ fun a => ?_
    match a with
    | ⟨0, _⟩ => rfl
    | ⟨1, _⟩ => rfl
  unfold dxPiece
  rw [dif_pos (show 128 * 3 + ((ix2 p l : S512x128.Idx) 1).val < 1024 from hc)]
  pointwise [k0_pay150, k0_pay146, k0_pay145, hld]
  rfl

theorem dx_4 : k0_pay152 (F := Ideal) (k0_pay151 (scales x0 x1 x4 w) (k0_pay145 (codes x0 x1 x4 w)) x5) (View.ld (Val := Elt Ideal) (e' := .f32) x6 (Rect.unit (s := S1x1024) ![0, 512] S1x128.size inb_S1x1024_S1x128_0_512)) = dxPiece x0 x1 x4 x5 x6 w 4 := by
  funext y
  rw [eq_ix2 y]
  generalize hp : y 0 = p
  generalize hl : y 1 = l
  have hc : 512 + l.val < 1024 := by have h : l.val < 128 := l.isLt; omega
  have hld : View.ld (Val := Elt Ideal) (e' := .f32) x6 (Rect.unit (s := S1x1024) ![0, 512] S1x128.size inb_S1x1024_S1x128_0_512) (ix2 0 l)
      = x6 (ix2 0 ⟨512 + l.val, hc⟩) := by
    refine View.ld_unit_apply_of x6 _ _ _ _ _ fun a => ?_
    match a with
    | ⟨0, _⟩ => rfl
    | ⟨1, _⟩ => rfl
  unfold dxPiece
  rw [dif_pos (show 128 * 4 + ((ix2 p l : S512x128.Idx) 1).val < 1024 from hc)]
  pointwise [k0_pay152, k0_pay151, k0_pay146, k0_pay145, hld]
  rfl

theorem dx_5 : k0_pay153 (F := Ideal) (scales x0 x1 x4 w) (k0_pay146 (k0_pay145 (codes x0 x1 x4 w)) x5) (View.ld (Val := Elt Ideal) (e' := .f32) x6 (Rect.unit (s := S1x1024) ![0, 640] S1x128.size inb_S1x1024_S1x128_0_640)) = dxPiece x0 x1 x4 x5 x6 w 5 := by
  funext y
  rw [eq_ix2 y]
  generalize hp : y 0 = p
  generalize hl : y 1 = l
  have hc : 640 + l.val < 1024 := by have h : l.val < 128 := l.isLt; omega
  have hld : View.ld (Val := Elt Ideal) (e' := .f32) x6 (Rect.unit (s := S1x1024) ![0, 640] S1x128.size inb_S1x1024_S1x128_0_640) (ix2 0 l)
      = x6 (ix2 0 ⟨640 + l.val, hc⟩) := by
    refine View.ld_unit_apply_of x6 _ _ _ _ _ fun a => ?_
    match a with
    | ⟨0, _⟩ => rfl
    | ⟨1, _⟩ => rfl
  unfold dxPiece
  rw [dif_pos (show 128 * 5 + ((ix2 p l : S512x128.Idx) 1).val < 1024 from hc)]
  pointwise [k0_pay153, k0_pay146, k0_pay145, hld]
  rfl

theorem dx_6 : k0_pay154 (F := Ideal) (scales x0 x1 x4 w) (k0_pay146 (k0_pay145 (codes x0 x1 x4 w)) x5) (View.ld (Val := Elt Ideal) (e' := .f32) x6 (Rect.unit (s := S1x1024) ![0, 768] S1x128.size inb_S1x1024_S1x128_0_768)) = dxPiece x0 x1 x4 x5 x6 w 6 := by
  funext y
  rw [eq_ix2 y]
  generalize hp : y 0 = p
  generalize hl : y 1 = l
  have hc : 768 + l.val < 1024 := by have h : l.val < 128 := l.isLt; omega
  have hld : View.ld (Val := Elt Ideal) (e' := .f32) x6 (Rect.unit (s := S1x1024) ![0, 768] S1x128.size inb_S1x1024_S1x128_0_768) (ix2 0 l)
      = x6 (ix2 0 ⟨768 + l.val, hc⟩) := by
    refine View.ld_unit_apply_of x6 _ _ _ _ _ fun a => ?_
    match a with
    | ⟨0, _⟩ => rfl
    | ⟨1, _⟩ => rfl
  unfold dxPiece
  rw [dif_pos (show 128 * 6 + ((ix2 p l : S512x128.Idx) 1).val < 1024 from hc)]
  pointwise [k0_pay154, k0_pay146, k0_pay145, hld]
  rfl

theorem dx_7 : k0_pay155 (F := Ideal) (scales x0 x1 x4 w) (k0_pay146 (k0_pay145 (codes x0 x1 x4 w)) x5) (View.ld (Val := Elt Ideal) (e' := .f32) x6 (Rect.unit (s := S1x1024) ![0, 896] S1x128.size inb_S1x1024_S1x128_0_896)) = dxPiece x0 x1 x4 x5 x6 w 7 := by
  funext y
  rw [eq_ix2 y]
  generalize hp : y 0 = p
  generalize hl : y 1 = l
  have hc : 896 + l.val < 1024 := by have h : l.val < 128 := l.isLt; omega
  have hld : View.ld (Val := Elt Ideal) (e' := .f32) x6 (Rect.unit (s := S1x1024) ![0, 896] S1x128.size inb_S1x1024_S1x128_0_896) (ix2 0 l)
      = x6 (ix2 0 ⟨896 + l.val, hc⟩) := by
    refine View.ld_unit_apply_of x6 _ _ _ _ _ fun a => ?_
    match a with
    | ⟨0, _⟩ => rfl
    | ⟨1, _⟩ => rfl
  unfold dxPiece
  rw [dif_pos (show 128 * 7 + ((ix2 p l : S512x128.Idx) 1).val < 1024 from hc)]
  pointwise [k0_pay155, k0_pay146, k0_pay145, hld]
  rfl

/-- 128 tokens' scales, as a row. -/
noncomputable def dsPiece (m : ℕ) : FVec Ideal S1x1x128 .f32 := fun y =>
  if h : 128 * m + (y 2).val < 512 then scale x0 x1 x4 w ⟨128 * m + (y 2).val, h⟩ else 0

theorem ds_0 (v657 : FVec Ideal S512x128 .f32) (v693 v695 : IVec S512x128 32) (c23 : BitVec 32)
    (h : k0_pay111 (F := Ideal) v657 v693 v695 c23 = scales x0 x1 x4 w) :
    k0_pay113 (F := Ideal) v657 v693 v695 c23 = dsPiece x0 x1 x4 w 0 := by
  funext y
  rw [eq_ix3 y]
  generalize h0 : y 0 = a
  generalize h1 : y 1 = b
  generalize h2 : y 2 = l
  have hc : 0 + l.val < 512 := by have h : l.val < 128 := l.isLt; omega
  unfold dsPiece
  rw [dif_pos (show 128 * 0 + ((ix3 a b l : S1x1x128.Idx) 2).val < 512 from hc)]
  pointwise [k0_pay113, h]
  rfl

theorem ds_1 (v657 : FVec Ideal S512x128 .f32) (v693 v695 : IVec S512x128 32) (c23 : BitVec 32)
    (h : k0_pay111 (F := Ideal) v657 v693 v695 c23 = scales x0 x1 x4 w) :
    k0_pay115 (F := Ideal) (k0_pay114 v657 v693 v695 c23) = dsPiece x0 x1 x4 w 1 := by
  funext y
  rw [eq_ix3 y]
  generalize h0 : y 0 = a
  generalize h1 : y 1 = b
  generalize h2 : y 2 = l
  have hc : 128 + l.val < 512 := by have h : l.val < 128 := l.isLt; omega
  unfold dsPiece
  rw [dif_pos (show 128 * 1 + ((ix3 a b l : S1x1x128.Idx) 2).val < 512 from hc)]
  pointwise [k0_pay115, k0_pay114, h]
  rfl

theorem ds_2 :
    k0_pay116 (F := Ideal) (scales x0 x1 x4 w) = dsPiece x0 x1 x4 w 2 := by
  funext y
  rw [eq_ix3 y]
  generalize h0 : y 0 = a
  generalize h1 : y 1 = b
  generalize h2 : y 2 = l
  have hc : 256 + l.val < 512 := by have h : l.val < 128 := l.isLt; omega
  unfold dsPiece
  rw [dif_pos (show 128 * 2 + ((ix3 a b l : S1x1x128.Idx) 2).val < 512 from hc)]
  pointwise [k0_pay116]
  rfl

theorem ds_3 :
    k0_pay117 (F := Ideal) (scales x0 x1 x4 w) = dsPiece x0 x1 x4 w 3 := by
  funext y
  rw [eq_ix3 y]
  generalize h0 : y 0 = a
  generalize h1 : y 1 = b
  generalize h2 : y 2 = l
  have hc : 384 + l.val < 512 := by have h : l.val < 128 := l.isLt; omega
  unfold dsPiece
  rw [dif_pos (show 128 * 3 + ((ix3 a b l : S1x1x128.Idx) 2).val < 512 from hc)]
  pointwise [k0_pay117]
  rfl

end Cert.KernelIdeal.Block
-- ==== Proof.Whole.lean ====
/-
  THE BLOCK'S FOUR RESULTS, whole. Each result window is stored in pieces that tile it; `canon_*` says what the pieces hold
  together. `fill` and `skip` read back rows of a buffer that a point first fills whole and then stores again row by row.
-/
module

public import proofs.«01_k».proof.Proof.Grad

@[expose] public section

namespace Cert.KernelIdeal.Block

open Idealize.ShloMosaic Idealize.SL.Sem Cert.KernelIdeal.Gen

variable (x0 : Vec Ideal S512x1024 .fp8e5m2) (x1 : Vec Ideal S1x1x512 .f32) (x2 : Vec Ideal S512x2816 .fp8e4m3)
  (x3 : Vec Ideal S1x1x512 .f32) (x4 : Vec Ideal S512x352 .i8) (x5 : Vec Ideal S1024x2816 .fp8e4m3)
  (x6 : Vec Ideal S1x1024 .f32) (w : Vec Ideal S2816x1024 .bf16)

section
variable {sig : RefSig} {κ : Kind} {sp : Space}

theorem fill {e : EltTy} (v : View sig κ sp S2816x1024 e) (Z : Vec Ideal S2816x1024 e)
    (L : List (View.Piece (Elt Ideal) S2816x1024 e)) (off : Fin 2 → ℕ) (inb) (inb') :
    v.readCov (⟨Rect.unit (s := S2816x1024) ![0, 0] ![2816, 1024] inb', Z⟩ :: L)
      (Rect.unit (s := S2816x1024) off ![256, 1024] inb).toLoadRect
      = View.ld Z (Rect.unit (s := S2816x1024) off ![256, 1024] inb) :=
  View.readCov_fill v _ Z L _ fun a => match a with
    | ⟨0, _⟩ => rfl
    | ⟨1, _⟩ => rfl

theorem disj_of_lt {s : Shape} (p : Rect s) (B : LoadRect s) (a : Fin s.rank)
    (h : p.off a + p.stride a * (p.size a - 1) < B.off a) : LoadRect.disj p B = true :=
  decide_eq_true ⟨a, Or.inr (Or.inr (Or.inl h))⟩

theorem skip {e : EltTy} (v : View sig κ sp S2816x1024 e) (a b : ℕ) (inb) (inb') (P : Vec Ideal S256x1024 e)
    (L : List (View.Piece (Elt Ideal) S2816x1024 e)) (h : a + 256 ≤ b) :
    v.readCov (⟨Rect.unit (s := S2816x1024) ![a, 0] ![256, 1024] inb', P⟩ :: L)
      (Rect.unit (s := S2816x1024) ![b, 0] ![256, 1024] inb).toLoadRect
      = v.readCov L (Rect.unit (s := S2816x1024) ![b, 0] ![256, 1024] inb).toLoadRect := by
  have hd : LoadRect.disj (Rect.unit (s := S2816x1024) ![a, 0] ![256, 1024] inb')
      (Rect.unit (s := S2816x1024) ![b, 0] ![256, 1024] inb).toLoadRect = true := by
    refine disj_of_lt _ _ (0 : Fin 2) ?_
    have h' : a + 1 * 255 < b := by omega
    exact h'
  exact View.readCov_skip v (Rect.unit (s := S2816x1024) ![a, 0] ![256, 1024] inb') P L _ hd

theorem readCov_codeTiles (v : View sig κ sp S512x2816 .fp8e5m2) (inb) :
    v.readCov (codeTiles x0 x1 x4 w) (Rect.unit (s := S512x2816) ![0, 0] ![512, 2816] inb).toLoadRect = codes x0 x1 x4 w := by
  refine (View.readCov_eq_canon' v _ _).trans ?_
  rw [canon_codeTiles]
  funext x
  refine congrArg (codes x0 x1 x4 w) (funext fun a => Fin.ext ?_)
  refine (idx_unit ![0, 0] ![512, 2816] inb x a).trans ?_
  match a with
  | ⟨0, _⟩ => exact Nat.zero_add _
  | ⟨1, _⟩ => exact Nat.zero_add _

end

/-- The block's gradient of the input, of the second weight over what it held, and its scales as a row. -/
noncomputable def dxBlock : Vec Ideal S512x1024 .bf16 := fun y =>
  (∑ f : Fin 2816, codeBlock x0 x1 x4 w (y 0) f * x5 (ix2 (y 1) f)) * scale x0 x1 x4 w (y 0) * x6 (ix2 0 (y 1))
noncomputable def dwBlock (P : Vec Ideal S2816x1024 .f32) : Vec Ideal S2816x1024 .f32 := fun y =>
  P y + ∑ p : Fin 512, x2 (ix2 p (y 0)) * x3 (ix3 0 0 p) * gy x0 x1 (ix2 p (y 1))
noncomputable def dsBlock : Vec Ideal S1x1x512 .f32 := fun y => scale x0 x1 x4 w (y 2)

theorem dxPiece_tile (j : ℕ) (x : S512x128.Idx) (y : S512x1024.Idx) (h0 : (y 0).val = (x 0).val) (h1 : (y 1).val = 128 * j + (x 1).val) :
    dxPiece x0 x1 x4 x5 x6 w j x = dxBlock x0 x1 x4 x5 x6 w y := by
  have hy : (y 1).val < 1024 := (y 1).isLt
  refine (dif_pos (show 128 * j + (x 1).val < 1024 from h1 ▸ hy)).trans ?_
  have e0 : x 0 = y 0 := Fin.ext h0.symm
  have e1 : (⟨128 * j + (x 1).val, h1 ▸ hy⟩ : Fin 1024) = y 1 := Fin.ext h1.symm
  unfold dxBlock
  rw [e0, e1]

theorem dwPiece_tile (P : Vec Ideal S2816x1024 .f32) (j : ℕ) (inb) (x : S256x1024.Idx) (y : S2816x1024.Idx) (h0 : (y 0).val = 256 * j + (x 0).val)
    (h1 : (y 1).val = (x 1).val) :
    dwPiece x0 x1 x2 x3 j (View.ld (Val := Elt Ideal) (e' := .f32) P (Rect.unit (s := S2816x1024) ![256 * j, 0] ![256, 1024] inb)) x
      = dwBlock x0 x1 x2 x3 P y := by
  have hy : (y 0).val < 2816 := (y 0).isLt
  have hl : View.ld (Val := Elt Ideal) (e' := .f32) P (Rect.unit (s := S2816x1024) ![256 * j, 0] ![256, 1024] inb) x = P y := by
    refine View.ld_unit_apply_of P _ _ _ _ _ fun a => ?_
    match a with
    | ⟨0, _⟩ => exact h0
    | ⟨1, _⟩ => exact h1.trans (Nat.zero_add _).symm
  have e0 : (⟨256 * j + (x 0).val, h0 ▸ hy⟩ : Fin 2816) = y 0 := Fin.ext h0.symm
  have e1 : x 1 = y 1 := Fin.ext h1.symm
  unfold dwPiece dwBlock
  rw [hl, dif_pos (show 256 * j + (x 0).val < 2816 from h0 ▸ hy), e0, e1]

theorem dsPiece_tile (j : ℕ) (x : S1x1x128.Idx) (y : S1x1x512.Idx) (h : (y 2).val = 128 * j + (x 2).val) :
    dsPiece x0 x1 x4 w j x = dsBlock x0 x1 x4 w y := by
  have hy : (y 2).val < 512 := (y 2).isLt
  refine (dif_pos (show 128 * j + (x 2).val < 512 from h ▸ hy)).trans ?_
  have e : (⟨128 * j + (x 2).val, h ▸ hy⟩ : Fin 512) = y 2 := Fin.ext h.symm
  unfold dsBlock
  rw [e]

theorem canon_dx : View.canon (
      [⟨Rect.unit ![0, 896] ![512, 128] inb_S512x1024_S512x128_0_896, dxPiece x0 x1 x4 x5 x6 w 7⟩,
        ⟨Rect.unit ![0, 768] ![512, 128] inb_S512x1024_S512x128_0_768, dxPiece x0 x1 x4 x5 x6 w 6⟩,
        ⟨Rect.unit ![0, 640] ![512, 128] inb_S512x1024_S512x128_0_640, dxPiece x0 x1 x4 x5 x6 w 5⟩,
        ⟨Rect.unit ![0, 512] ![512, 128] inb_S512x1024_S512x128_0_512, dxPiece x0 x1 x4 x5 x6 w 4⟩,
        ⟨Rect.unit ![0, 384] ![512, 128] inb_S512x1024_S512x128_0_384, dxPiece x0 x1 x4 x5 x6 w 3⟩,
        ⟨Rect.unit ![0, 256] ![512, 128] inb_S512x1024_S512x128_0_256, dxPiece x0 x1 x4 x5 x6 w 2⟩,
        ⟨Rect.unit ![0, 128] ![512, 128] inb_S512x1024_S512x128_0_128, dxPiece x0 x1 x4 x5 x6 w 1⟩,
        ⟨Rect.unit ![0, 0] ![512, 128] inb_S512x1024_S512x128_0_0, dxPiece x0 x1 x4 x5 x6 w 0⟩] : List (View.Piece (Elt Ideal) S512x1024 .bf16)) = dxBlock x0 x1 x4 x5 x6 w := by
  funext y
  have hc := View.cover_of_tiled (
      [⟨Rect.unit ![0, 896] ![512, 128] inb_S512x1024_S512x128_0_896, dxPiece x0 x1 x4 x5 x6 w 7⟩,
        ⟨Rect.unit ![0, 768] ![512, 128] inb_S512x1024_S512x128_0_768, dxPiece x0 x1 x4 x5 x6 w 6⟩,
        ⟨Rect.unit ![0, 640] ![512, 128] inb_S512x1024_S512x128_0_640, dxPiece x0 x1 x4 x5 x6 w 5⟩,
        ⟨Rect.unit ![0, 512] ![512, 128] inb_S512x1024_S512x128_0_512, dxPiece x0 x1 x4 x5 x6 w 4⟩,
        ⟨Rect.unit ![0, 384] ![512, 128] inb_S512x1024_S512x128_0_384, dxPiece x0 x1 x4 x5 x6 w 3⟩,
        ⟨Rect.unit ![0, 256] ![512, 128] inb_S512x1024_S512x128_0_256, dxPiece x0 x1 x4 x5 x6 w 2⟩,
        ⟨Rect.unit ![0, 128] ![512, 128] inb_S512x1024_S512x128_0_128, dxPiece x0 x1 x4 x5 x6 w 1⟩,
        ⟨Rect.unit ![0, 0] ![512, 128] inb_S512x1024_S512x128_0_0, dxPiece x0 x1 x4 x5 x6 w 0⟩] : List (View.Piece (Elt Ideal) S512x1024 .bf16)) ![512, 128] rfl y
  canon_tiles x h using hc
  all_goals exact dxPiece_tile x0 x1 x4 x5 x6 w _ x y (by omega) (by omega)

theorem canon_dw (P : Vec Ideal S2816x1024 .f32) : View.canon (
      [⟨Rect.unit ![2560, 0] ![256, 1024] inb_S2816x1024_S256x1024_2560_0,
          dwPiece x0 x1 x2 x3 10 (View.ld (Val := Elt Ideal) (e' := .f32) P (Rect.unit (s := S2816x1024) ![2560, 0] ![256, 1024] inb_S2816x1024_S256x1024_2560_0))⟩,
        ⟨Rect.unit ![2304, 0] ![256, 1024] inb_S2816x1024_S256x1024_2304_0,
          dwPiece x0 x1 x2 x3 9 (View.ld (Val := Elt Ideal) (e' := .f32) P (Rect.unit (s := S2816x1024) ![2304, 0] ![256, 1024] inb_S2816x1024_S256x1024_2304_0))⟩,
        ⟨Rect.unit ![2048, 0] ![256, 1024] inb_S2816x1024_S256x1024_2048_0,
          dwPiece x0 x1 x2 x3 8 (View.ld (Val := Elt Ideal) (e' := .f32) P (Rect.unit (s := S2816x1024) ![2048, 0] ![256, 1024] inb_S2816x1024_S256x1024_2048_0))⟩,
        ⟨Rect.unit ![1792, 0] ![256, 1024] inb_S2816x1024_S256x1024_1792_0,
          dwPiece x0 x1 x2 x3 7 (View.ld (Val := Elt Ideal) (e' := .f32) P (Rect.unit (s := S2816x1024) ![1792, 0] ![256, 1024] inb_S2816x1024_S256x1024_1792_0))⟩,
        ⟨Rect.unit ![1536, 0] ![256, 1024] inb_S2816x1024_S256x1024_1536_0,
          dwPiece x0 x1 x2 x3 6 (View.ld (Val := Elt Ideal) (e' := .f32) P (Rect.unit (s := S2816x1024) ![1536, 0] ![256, 1024] inb_S2816x1024_S256x1024_1536_0))⟩,
        ⟨Rect.unit ![1280, 0] ![256, 1024] inb_S2816x1024_S256x1024_1280_0,
          dwPiece x0 x1 x2 x3 5 (View.ld (Val := Elt Ideal) (e' := .f32) P (Rect.unit (s := S2816x1024) ![1280, 0] ![256, 1024] inb_S2816x1024_S256x1024_1280_0))⟩,
        ⟨Rect.unit ![1024, 0] ![256, 1024] inb_S2816x1024_S256x1024_1024_0,
          dwPiece x0 x1 x2 x3 4 (View.ld (Val := Elt Ideal) (e' := .f32) P (Rect.unit (s := S2816x1024) ![1024, 0] ![256, 1024] inb_S2816x1024_S256x1024_1024_0))⟩,
        ⟨Rect.unit ![768, 0] ![256, 1024] inb_S2816x1024_S256x1024_768_0,
          dwPiece x0 x1 x2 x3 3 (View.ld (Val := Elt Ideal) (e' := .f32) P (Rect.unit (s := S2816x1024) ![768, 0] ![256, 1024] inb_S2816x1024_S256x1024_768_0))⟩,
        ⟨Rect.unit ![512, 0] ![256, 1024] inb_S2816x1024_S256x1024_512_0,
          dwPiece x0 x1 x2 x3 2 (View.ld (Val := Elt Ideal) (e' := .f32) P (Rect.unit (s := S2816x1024) ![512, 0] ![256, 1024] inb_S2816x1024_S256x1024_512_0))⟩,
        ⟨Rect.unit ![256, 0] ![256, 1024] inb_S2816x1024_S256x1024_256_0,
          dwPiece x0 x1 x2 x3 1 (View.ld (Val := Elt Ideal) (e' := .f32) P (Rect.unit (s := S2816x1024) ![256, 0] ![256, 1024] inb_S2816x1024_S256x1024_256_0))⟩,
        ⟨Rect.unit ![0, 0] ![256, 1024] inb_S2816x1024_S256x1024_0_0,
          dwPiece x0 x1 x2 x3 0 (View.ld (Val := Elt Ideal) (e' := .f32) P (Rect.unit (s := S2816x1024) ![0, 0] ![256, 1024] inb_S2816x1024_S256x1024_0_0))⟩] : List (View.Piece (Elt Ideal) S2816x1024 .f32)) = dwBlock x0 x1 x2 x3 P := by
  funext y
  have hc := View.cover_of_tiled (
      [⟨Rect.unit ![2560, 0] ![256, 1024] inb_S2816x1024_S256x1024_2560_0,
          dwPiece x0 x1 x2 x3 10 (View.ld (Val := Elt Ideal) (e' := .f32) P (Rect.unit (s := S2816x1024) ![2560, 0] ![256, 1024] inb_S2816x1024_S256x1024_2560_0))⟩,
        ⟨Rect.unit ![2304, 0] ![256, 1024] inb_S2816x1024_S256x1024_2304_0,
          dwPiece x0 x1 x2 x3 9 (View.ld (Val := Elt Ideal) (e' := .f32) P (Rect.unit (s := S2816x1024) ![2304, 0] ![256, 1024] inb_S2816x1024_S256x1024_2304_0))⟩,
        ⟨Rect.unit ![2048, 0] ![256, 1024] inb_S2816x1024_S256x1024_2048_0,
          dwPiece x0 x1 x2 x3 8 (View.ld (Val := Elt Ideal) (e' := .f32) P (Rect.unit (s := S2816x1024) ![2048, 0] ![256, 1024] inb_S2816x1024_S256x1024_2048_0))⟩,
        ⟨Rect.unit ![1792, 0] ![256, 1024] inb_S2816x1024_S256x1024_1792_0,
          dwPiece x0 x1 x2 x3 7 (View.ld (Val := Elt Ideal) (e' := .f32) P (Rect.unit (s := S2816x1024) ![1792, 0] ![256, 1024] inb_S2816x1024_S256x1024_1792_0))⟩,
        ⟨Rect.unit ![1536, 0] ![256, 1024] inb_S2816x1024_S256x1024_1536_0,
          dwPiece x0 x1 x2 x3 6 (View.ld (Val := Elt Ideal) (e' := .f32) P (Rect.unit (s := S2816x1024) ![1536, 0] ![256, 1024] inb_S2816x1024_S256x1024_1536_0))⟩,
        ⟨Rect.unit ![1280, 0] ![256, 1024] inb_S2816x1024_S256x1024_1280_0,
          dwPiece x0 x1 x2 x3 5 (View.ld (Val := Elt Ideal) (e' := .f32) P (Rect.unit (s := S2816x1024) ![1280, 0] ![256, 1024] inb_S2816x1024_S256x1024_1280_0))⟩,
        ⟨Rect.unit ![1024, 0] ![256, 1024] inb_S2816x1024_S256x1024_1024_0,
          dwPiece x0 x1 x2 x3 4 (View.ld (Val := Elt Ideal) (e' := .f32) P (Rect.unit (s := S2816x1024) ![1024, 0] ![256, 1024] inb_S2816x1024_S256x1024_1024_0))⟩,
        ⟨Rect.unit ![768, 0] ![256, 1024] inb_S2816x1024_S256x1024_768_0,
          dwPiece x0 x1 x2 x3 3 (View.ld (Val := Elt Ideal) (e' := .f32) P (Rect.unit (s := S2816x1024) ![768, 0] ![256, 1024] inb_S2816x1024_S256x1024_768_0))⟩,
        ⟨Rect.unit ![512, 0] ![256, 1024] inb_S2816x1024_S256x1024_512_0,
          dwPiece x0 x1 x2 x3 2 (View.ld (Val := Elt Ideal) (e' := .f32) P (Rect.unit (s := S2816x1024) ![512, 0] ![256, 1024] inb_S2816x1024_S256x1024_512_0))⟩,
        ⟨Rect.unit ![256, 0] ![256, 1024] inb_S2816x1024_S256x1024_256_0,
          dwPiece x0 x1 x2 x3 1 (View.ld (Val := Elt Ideal) (e' := .f32) P (Rect.unit (s := S2816x1024) ![256, 0] ![256, 1024] inb_S2816x1024_S256x1024_256_0))⟩,
        ⟨Rect.unit ![0, 0] ![256, 1024] inb_S2816x1024_S256x1024_0_0,
          dwPiece x0 x1 x2 x3 0 (View.ld (Val := Elt Ideal) (e' := .f32) P (Rect.unit (s := S2816x1024) ![0, 0] ![256, 1024] inb_S2816x1024_S256x1024_0_0))⟩] : List (View.Piece (Elt Ideal) S2816x1024 .f32)) ![256, 1024] rfl y
  canon_tiles x h using hc
  all_goals exact dwPiece_tile x0 x1 x2 x3 P _ _ x y (by omega) (by omega)

theorem canon_append_of_mem {s : Shape} {e : EltTy} (L' : List (View.Piece (Elt Ideal) s e)) (y : s.Idx) :
    ∀ L : List (View.Piece (Elt Ideal) s e), (∃ p ∈ L, y ∈ p.1.set) → View.canon (L ++ L') y = View.canon L y
  | [], hc => by obtain ⟨p, hp, _⟩ := hc; exact absurd hp List.not_mem_nil
  | p :: L, hc => by
    rw [List.cons_append]
    by_cases hm : y ∈ p.1.set
    · obtain ⟨x, rfl⟩ := p.1.exists_idx_of_mem hm
      rw [show p.1.idx x = p.1.emb x from rfl]
      exact (View.canon_cons_emb p.1 p.2 (L ++ L') x).trans (View.canon_cons_emb p.1 p.2 L x).symm
    · rw [View.canon_cons_of_not_mem _ _ hm, View.canon_cons_of_not_mem _ _ hm]
      refine canon_append_of_mem L' y L ?_
      obtain ⟨q, hq, hyq⟩ := hc
      rcases List.mem_cons.mp hq with rfl | hq'
      · exact absurd hyq hm
      · exact ⟨q, hq', hyq⟩

theorem canon_dw_fill (P Q : Vec Ideal S2816x1024 .f32) (inb) : View.canon (
      [⟨Rect.unit ![2560, 0] ![256, 1024] inb_S2816x1024_S256x1024_2560_0,
          dwPiece x0 x1 x2 x3 10 (View.ld (Val := Elt Ideal) (e' := .f32) P (Rect.unit (s := S2816x1024) ![2560, 0] ![256, 1024] inb_S2816x1024_S256x1024_2560_0))⟩,
        ⟨Rect.unit ![2304, 0] ![256, 1024] inb_S2816x1024_S256x1024_2304_0,
          dwPiece x0 x1 x2 x3 9 (View.ld (Val := Elt Ideal) (e' := .f32) P (Rect.unit (s := S2816x1024) ![2304, 0] ![256, 1024] inb_S2816x1024_S256x1024_2304_0))⟩,
        ⟨Rect.unit ![2048, 0] ![256, 1024] inb_S2816x1024_S256x1024_2048_0,
          dwPiece x0 x1 x2 x3 8 (View.ld (Val := Elt Ideal) (e' := .f32) P (Rect.unit (s := S2816x1024) ![2048, 0] ![256, 1024] inb_S2816x1024_S256x1024_2048_0))⟩,
        ⟨Rect.unit ![1792, 0] ![256, 1024] inb_S2816x1024_S256x1024_1792_0,
          dwPiece x0 x1 x2 x3 7 (View.ld (Val := Elt Ideal) (e' := .f32) P (Rect.unit (s := S2816x1024) ![1792, 0] ![256, 1024] inb_S2816x1024_S256x1024_1792_0))⟩,
        ⟨Rect.unit ![1536, 0] ![256, 1024] inb_S2816x1024_S256x1024_1536_0,
          dwPiece x0 x1 x2 x3 6 (View.ld (Val := Elt Ideal) (e' := .f32) P (Rect.unit (s := S2816x1024) ![1536, 0] ![256, 1024] inb_S2816x1024_S256x1024_1536_0))⟩,
        ⟨Rect.unit ![1280, 0] ![256, 1024] inb_S2816x1024_S256x1024_1280_0,
          dwPiece x0 x1 x2 x3 5 (View.ld (Val := Elt Ideal) (e' := .f32) P (Rect.unit (s := S2816x1024) ![1280, 0] ![256, 1024] inb_S2816x1024_S256x1024_1280_0))⟩,
        ⟨Rect.unit ![1024, 0] ![256, 1024] inb_S2816x1024_S256x1024_1024_0,
          dwPiece x0 x1 x2 x3 4 (View.ld (Val := Elt Ideal) (e' := .f32) P (Rect.unit (s := S2816x1024) ![1024, 0] ![256, 1024] inb_S2816x1024_S256x1024_1024_0))⟩,
        ⟨Rect.unit ![768, 0] ![256, 1024] inb_S2816x1024_S256x1024_768_0,
          dwPiece x0 x1 x2 x3 3 (View.ld (Val := Elt Ideal) (e' := .f32) P (Rect.unit (s := S2816x1024) ![768, 0] ![256, 1024] inb_S2816x1024_S256x1024_768_0))⟩,
        ⟨Rect.unit ![512, 0] ![256, 1024] inb_S2816x1024_S256x1024_512_0,
          dwPiece x0 x1 x2 x3 2 (View.ld (Val := Elt Ideal) (e' := .f32) P (Rect.unit (s := S2816x1024) ![512, 0] ![256, 1024] inb_S2816x1024_S256x1024_512_0))⟩,
        ⟨Rect.unit ![256, 0] ![256, 1024] inb_S2816x1024_S256x1024_256_0,
          dwPiece x0 x1 x2 x3 1 (View.ld (Val := Elt Ideal) (e' := .f32) P (Rect.unit (s := S2816x1024) ![256, 0] ![256, 1024] inb_S2816x1024_S256x1024_256_0))⟩,
        ⟨Rect.unit ![0, 0] ![256, 1024] inb_S2816x1024_S256x1024_0_0,
          dwPiece x0 x1 x2 x3 0 (View.ld (Val := Elt Ideal) (e' := .f32) P (Rect.unit (s := S2816x1024) ![0, 0] ![256, 1024] inb_S2816x1024_S256x1024_0_0))⟩,
        ⟨Rect.unit ![0, 0] ![2816, 1024] inb, Q⟩] : List (View.Piece (Elt Ideal) S2816x1024 .f32)) = dwBlock x0 x1 x2 x3 P := by
  rw [← canon_dw]
  funext y
  have hc := View.cover_of_tiled (
      [⟨Rect.unit ![2560, 0] ![256, 1024] inb_S2816x1024_S256x1024_2560_0,
          dwPiece x0 x1 x2 x3 10 (View.ld (Val := Elt Ideal) (e' := .f32) P (Rect.unit (s := S2816x1024) ![2560, 0] ![256, 1024] inb_S2816x1024_S256x1024_2560_0))⟩,
        ⟨Rect.unit ![2304, 0] ![256, 1024] inb_S2816x1024_S256x1024_2304_0,
          dwPiece x0 x1 x2 x3 9 (View.ld (Val := Elt Ideal) (e' := .f32) P (Rect.unit (s := S2816x1024) ![2304, 0] ![256, 1024] inb_S2816x1024_S256x1024_2304_0))⟩,
        ⟨Rect.unit ![2048, 0] ![256, 1024] inb_S2816x1024_S256x1024_2048_0,
          dwPiece x0 x1 x2 x3 8 (View.ld (Val := Elt Ideal) (e' := .f32) P (Rect.unit (s := S2816x1024) ![2048, 0] ![256, 1024] inb_S2816x1024_S256x1024_2048_0))⟩,
        ⟨Rect.unit ![1792, 0] ![256, 1024] inb_S2816x1024_S256x1024_1792_0,
          dwPiece x0 x1 x2 x3 7 (View.ld (Val := Elt Ideal) (e' := .f32) P (Rect.unit (s := S2816x1024) ![1792, 0] ![256, 1024] inb_S2816x1024_S256x1024_1792_0))⟩,
        ⟨Rect.unit ![1536, 0] ![256, 1024] inb_S2816x1024_S256x1024_1536_0,
          dwPiece x0 x1 x2 x3 6 (View.ld (Val := Elt Ideal) (e' := .f32) P (Rect.unit (s := S2816x1024) ![1536, 0] ![256, 1024] inb_S2816x1024_S256x1024_1536_0))⟩,
        ⟨Rect.unit ![1280, 0] ![256, 1024] inb_S2816x1024_S256x1024_1280_0,
          dwPiece x0 x1 x2 x3 5 (View.ld (Val := Elt Ideal) (e' := .f32) P (Rect.unit (s := S2816x1024) ![1280, 0] ![256, 1024] inb_S2816x1024_S256x1024_1280_0))⟩,
        ⟨Rect.unit ![1024, 0] ![256, 1024] inb_S2816x1024_S256x1024_1024_0,
          dwPiece x0 x1 x2 x3 4 (View.ld (Val := Elt Ideal) (e' := .f32) P (Rect.unit (s := S2816x1024) ![1024, 0] ![256, 1024] inb_S2816x1024_S256x1024_1024_0))⟩,
        ⟨Rect.unit ![768, 0] ![256, 1024] inb_S2816x1024_S256x1024_768_0,
          dwPiece x0 x1 x2 x3 3 (View.ld (Val := Elt Ideal) (e' := .f32) P (Rect.unit (s := S2816x1024) ![768, 0] ![256, 1024] inb_S2816x1024_S256x1024_768_0))⟩,
        ⟨Rect.unit ![512, 0] ![256, 1024] inb_S2816x1024_S256x1024_512_0,
          dwPiece x0 x1 x2 x3 2 (View.ld (Val := Elt Ideal) (e' := .f32) P (Rect.unit (s := S2816x1024) ![512, 0] ![256, 1024] inb_S2816x1024_S256x1024_512_0))⟩,
        ⟨Rect.unit ![256, 0] ![256, 1024] inb_S2816x1024_S256x1024_256_0,
          dwPiece x0 x1 x2 x3 1 (View.ld (Val := Elt Ideal) (e' := .f32) P (Rect.unit (s := S2816x1024) ![256, 0] ![256, 1024] inb_S2816x1024_S256x1024_256_0))⟩,
        ⟨Rect.unit ![0, 0] ![256, 1024] inb_S2816x1024_S256x1024_0_0,
          dwPiece x0 x1 x2 x3 0 (View.ld (Val := Elt Ideal) (e' := .f32) P (Rect.unit (s := S2816x1024) ![0, 0] ![256, 1024] inb_S2816x1024_S256x1024_0_0))⟩] : List (View.Piece (Elt Ideal) S2816x1024 .f32)) ![256, 1024] rfl y
  have ha := canon_append_of_mem [⟨Rect.unit ![0, 0] ![2816, 1024] inb, Q⟩] y _ hc
  rw [List.cons_append, List.cons_append, List.cons_append, List.cons_append, List.cons_append, List.cons_append,
    List.cons_append, List.cons_append, List.cons_append, List.cons_append, List.cons_append, List.nil_append] at ha
  exact ha

theorem canon_ds : View.canon (
      [⟨Rect.unit ![0, 0, 384] ![1, 1, 128] inb_S1x1x512_S1x1x128_0_0_384, dsPiece x0 x1 x4 w 3⟩,
        ⟨Rect.unit ![0, 0, 256] ![1, 1, 128] inb_S1x1x512_S1x1x128_0_0_256, dsPiece x0 x1 x4 w 2⟩,
        ⟨Rect.unit ![0, 0, 128] ![1, 1, 128] inb_S1x1x512_S1x1x128_0_0_128, dsPiece x0 x1 x4 w 1⟩,
        ⟨Rect.unit ![0, 0, 0] ![1, 1, 128] inb_S1x1x512_S1x1x128_0_0_0, dsPiece x0 x1 x4 w 0⟩] : List (View.Piece (Elt Ideal) S1x1x512 .f32)) = dsBlock x0 x1 x4 w := by
  funext y
  have hc := View.cover_of_tiled (
      [⟨Rect.unit ![0, 0, 384] ![1, 1, 128] inb_S1x1x512_S1x1x128_0_0_384, dsPiece x0 x1 x4 w 3⟩,
        ⟨Rect.unit ![0, 0, 256] ![1, 1, 128] inb_S1x1x512_S1x1x128_0_0_256, dsPiece x0 x1 x4 w 2⟩,
        ⟨Rect.unit ![0, 0, 128] ![1, 1, 128] inb_S1x1x512_S1x1x128_0_0_128, dsPiece x0 x1 x4 w 1⟩,
        ⟨Rect.unit ![0, 0, 0] ![1, 1, 128] inb_S1x1x512_S1x1x128_0_0_0, dsPiece x0 x1 x4 w 0⟩] : List (View.Piece (Elt Ideal) S1x1x512 .f32)) ![1, 1, 128] rfl y
  canon_tiles x h using hc
  all_goals exact dsPiece_tile x0 x1 x4 w _ x y (by omega)

theorem ds_first : k0_pay113 (F := Ideal) (peaks x0 x1 x4 w) (k0_pay108 (F := Ideal) (amaxTo x0 x1 x4 w 20) (absf (chunk x0 x1 x4 w 21)))
      (k0_pay109 (F := Ideal) (amaxTo x0 x1 x4 w 20) (absf (chunk x0 x1 x4 w 21))) 23#32 = dsPiece x0 x1 x4 w 0 :=
  ds_0 x0 x1 x4 w _ _ _ _ (scales_eq x0 x1 x4 w)

theorem ds_second : k0_pay115 (F := Ideal) (k0_pay114 (peaks x0 x1 x4 w) (k0_pay108 (F := Ideal) (amaxTo x0 x1 x4 w 20) (absf (chunk x0 x1 x4 w 21)))
      (k0_pay109 (F := Ideal) (amaxTo x0 x1 x4 w 20) (absf (chunk x0 x1 x4 w 21))) 23#32) = dsPiece x0 x1 x4 w 1 :=
  ds_1 x0 x1 x4 w _ _ _ _ (scales_eq x0 x1 x4 w)

end Cert.KernelIdeal.Block
-- ==== Proof.Outs.lean ====
/-
  WHAT ONE POINT LEAVES, window by window: the block functions of `Whole` at that point's blocks. The first point
  (`t = 0`) also builds the weight it carries and starts the weight gradient from zero; every other point reads the weight
  and the weight gradient of the point before.
-/
module

public import proofs.«01_k».proof.Proof.Whole
public import proofs.«01_k».proof.Proof.Gen.KernelIdeal.Frame
public import Idealize.ShloMosaic.Lib.Pipeline.ValueKit

@[expose] public section

namespace Cert.KernelIdeal.Block

open Idealize.ShloMosaic Idealize.SL.Sem Cert.KernelIdeal.Gen

variable (m : (ℓ : Loc nD τ sig) → Buf (Elt Ideal) ℓ) (c : Dev nD) (t : Fin cfg0.N)

theorem scratch_read (h : (Memref.whole cc0_scratch0).IsWhole) (X : Vec Ideal S2816x1024 .bf16) :
    View.read (Elt Ideal) (View.whole cc0_scratch0) (h.unread X) = X := h.read_unread X

/-- What the point before left. -/
noncomputable abbrev before := outsAt0 m c (t.val - 1) (Nat.lt_of_le_of_lt (Nat.sub_le _ _) t.isLt)

/-- The weight the first point builds. -/
noncomputable abbrev weight : Vec Ideal S2816x1024 .bf16 := k0_pay3 (iblk m c 7 t) (iblk m c 8 t)

set_option maxHeartbeats 0 in
theorem dx_A (h : t.val % 96 = 0) : (outsAt0 m c t.val t.isLt).1
      = dxBlock (iblk m c 0 t) (iblk m c 1 t) (iblk m c 4 t) (iblk m c 5 t) (iblk m c 6 t) (weight m c t) := by
  rw [outsAt0_A m c t h]
  frame_out [
    scratch_read, piece_0, piece_1, piece_2, piece_3, piece_4, piece_5, piece_6, piece_7, piece_8, piece_9,
    piece_10, piece_11, piece_12, piece_13, piece_14, piece_15, piece_16, piece_17, piece_18, piece_19,
    piece_20, piece_21, top_0, top_1, top_3, top_4, mag_5, top_6, top_8, top_9, top_11, top_12, mag_13,
    top_14, top_16, top_17, top_19, top_20, mag_21, dhTiles_fold, codeTiles_fold, canon_codeTiles,
    readCov_dhTiles_0, readCov_dhTiles_1, readCov_dhTiles_2, readCov_dhTiles_3, readCov_dhTiles_4,
    readCov_dhTiles_5, readCov_dhTiles_6, readCov_dhTiles_7, readCov_dhTiles_8, readCov_dhTiles_9,
    readCov_dhTiles_10, readCov_dhTiles_11, readCov_dhTiles_12, readCov_dhTiles_13, readCov_dhTiles_14,
    readCov_dhTiles_15, readCov_dhTiles_16, readCov_dhTiles_17, readCov_dhTiles_18, readCov_dhTiles_19,
    readCov_dhTiles_20, readCov_dhTiles_21, code_0, code_1, code_2, code_3, code_4, code_5, code_6, code_7,
    code_8, code_9, code_10, code_11, code_12, code_13, code_14, code_15, code_16, code_17, code_18, code_19,
    code_20, code_21, peaks_eq, scales_eq, invs_eq, gy_eq, dw_0, dw_1, dw_2, dw_3, dw_4, dw_5, dw_6, dw_7,
    dw_8, dw_9, dw_10, dx_0, dx_1, dx_2, dx_3, dx_4, dx_5, dx_6, dx_7, ds_first, ds_second, ds_2, ds_3, fill,
    skip, readCov_codeTiles, canon_dx, canon_dw, canon_dw_fill, canon_ds]

set_option maxHeartbeats 0 in
theorem dw_A (h : t.val % 96 = 0) : (outsAt0 m c t.val t.isLt).2.1
      = dwBlock (iblk m c 0 t) (iblk m c 1 t) (iblk m c 2 t) (iblk m c 3 t) (k0_pay4 (F := Ideal)) := by
  rw [outsAt0_A m c t h]
  frame_out [
    scratch_read, piece_0, piece_1, piece_2, piece_3, piece_4, piece_5, piece_6, piece_7, piece_8, piece_9,
    piece_10, piece_11, piece_12, piece_13, piece_14, piece_15, piece_16, piece_17, piece_18, piece_19,
    piece_20, piece_21, top_0, top_1, top_3, top_4, mag_5, top_6, top_8, top_9, top_11, top_12, mag_13,
    top_14, top_16, top_17, top_19, top_20, mag_21, dhTiles_fold, codeTiles_fold, canon_codeTiles,
    readCov_dhTiles_0, readCov_dhTiles_1, readCov_dhTiles_2, readCov_dhTiles_3, readCov_dhTiles_4,
    readCov_dhTiles_5, readCov_dhTiles_6, readCov_dhTiles_7, readCov_dhTiles_8, readCov_dhTiles_9,
    readCov_dhTiles_10, readCov_dhTiles_11, readCov_dhTiles_12, readCov_dhTiles_13, readCov_dhTiles_14,
    readCov_dhTiles_15, readCov_dhTiles_16, readCov_dhTiles_17, readCov_dhTiles_18, readCov_dhTiles_19,
    readCov_dhTiles_20, readCov_dhTiles_21, code_0, code_1, code_2, code_3, code_4, code_5, code_6, code_7,
    code_8, code_9, code_10, code_11, code_12, code_13, code_14, code_15, code_16, code_17, code_18, code_19,
    code_20, code_21, peaks_eq, scales_eq, invs_eq, gy_eq, dw_0, dw_1, dw_2, dw_3, dw_4, dw_5, dw_6, dw_7,
    dw_8, dw_9, dw_10, dx_0, dx_1, dx_2, dx_3, dx_4, dx_5, dx_6, dx_7, ds_first, ds_second, ds_2, ds_3, fill,
    skip, readCov_codeTiles, canon_dx, canon_dw, canon_dw_fill, canon_ds]

set_option maxHeartbeats 0 in
theorem codes_A (h : t.val % 96 = 0) : (outsAt0 m c t.val t.isLt).2.2.1
      = codes (iblk m c 0 t) (iblk m c 1 t) (iblk m c 4 t) (weight m c t) := by
  rw [outsAt0_A m c t h]
  frame_out [
    scratch_read, piece_0, piece_1, piece_2, piece_3, piece_4, piece_5, piece_6, piece_7, piece_8, piece_9,
    piece_10, piece_11, piece_12, piece_13, piece_14, piece_15, piece_16, piece_17, piece_18, piece_19,
    piece_20, piece_21, top_0, top_1, top_3, top_4, mag_5, top_6, top_8, top_9, top_11, top_12, mag_13,
    top_14, top_16, top_17, top_19, top_20, mag_21, dhTiles_fold, codeTiles_fold, canon_codeTiles,
    readCov_dhTiles_0, readCov_dhTiles_1, readCov_dhTiles_2, readCov_dhTiles_3, readCov_dhTiles_4,
    readCov_dhTiles_5, readCov_dhTiles_6, readCov_dhTiles_7, readCov_dhTiles_8, readCov_dhTiles_9,
    readCov_dhTiles_10, readCov_dhTiles_11, readCov_dhTiles_12, readCov_dhTiles_13, readCov_dhTiles_14,
    readCov_dhTiles_15, readCov_dhTiles_16, readCov_dhTiles_17, readCov_dhTiles_18, readCov_dhTiles_19,
    readCov_dhTiles_20, readCov_dhTiles_21, code_0, code_1, code_2, code_3, code_4, code_5, code_6, code_7,
    code_8, code_9, code_10, code_11, code_12, code_13, code_14, code_15, code_16, code_17, code_18, code_19,
    code_20, code_21, peaks_eq, scales_eq, invs_eq, gy_eq, dw_0, dw_1, dw_2, dw_3, dw_4, dw_5, dw_6, dw_7,
    dw_8, dw_9, dw_10, dx_0, dx_1, dx_2, dx_3, dx_4, dx_5, dx_6, dx_7, ds_first, ds_second, ds_2, ds_3, fill,
    skip, readCov_codeTiles, canon_dx, canon_dw, canon_dw_fill, canon_ds]

set_option maxHeartbeats 0 in
theorem ds_A (h : t.val % 96 = 0) : (outsAt0 m c t.val t.isLt).2.2.2.1
      = dsBlock (iblk m c 0 t) (iblk m c 1 t) (iblk m c 4 t) (weight m c t) := by
  rw [outsAt0_A m c t h]
  frame_out [
    scratch_read, piece_0, piece_1, piece_2, piece_3, piece_4, piece_5, piece_6, piece_7, piece_8, piece_9,
    piece_10, piece_11, piece_12, piece_13, piece_14, piece_15, piece_16, piece_17, piece_18, piece_19,
    piece_20, piece_21, top_0, top_1, top_3, top_4, mag_5, top_6, top_8, top_9, top_11, top_12, mag_13,
    top_14, top_16, top_17, top_19, top_20, mag_21, dhTiles_fold, codeTiles_fold, canon_codeTiles,
    readCov_dhTiles_0, readCov_dhTiles_1, readCov_dhTiles_2, readCov_dhTiles_3, readCov_dhTiles_4,
    readCov_dhTiles_5, readCov_dhTiles_6, readCov_dhTiles_7, readCov_dhTiles_8, readCov_dhTiles_9,
    readCov_dhTiles_10, readCov_dhTiles_11, readCov_dhTiles_12, readCov_dhTiles_13, readCov_dhTiles_14,
    readCov_dhTiles_15, readCov_dhTiles_16, readCov_dhTiles_17, readCov_dhTiles_18, readCov_dhTiles_19,
    readCov_dhTiles_20, readCov_dhTiles_21, code_0, code_1, code_2, code_3, code_4, code_5, code_6, code_7,
    code_8, code_9, code_10, code_11, code_12, code_13, code_14, code_15, code_16, code_17, code_18, code_19,
    code_20, code_21, peaks_eq, scales_eq, invs_eq, gy_eq, dw_0, dw_1, dw_2, dw_3, dw_4, dw_5, dw_6, dw_7,
    dw_8, dw_9, dw_10, dx_0, dx_1, dx_2, dx_3, dx_4, dx_5, dx_6, dx_7, ds_first, ds_second, ds_2, ds_3, fill,
    skip, readCov_codeTiles, canon_dx, canon_dw, canon_dw_fill, canon_ds]

set_option maxHeartbeats 0 in
theorem w_A (h : t.val % 96 = 0) : (outsAt0 m c t.val t.isLt).2.2.2.2
      = (weight m c t) := by
  rw [outsAt0_A m c t h]
  frame_out [
    scratch_read, piece_0, piece_1, piece_2, piece_3, piece_4, piece_5, piece_6, piece_7, piece_8, piece_9,
    piece_10, piece_11, piece_12, piece_13, piece_14, piece_15, piece_16, piece_17, piece_18, piece_19,
    piece_20, piece_21, top_0, top_1, top_3, top_4, mag_5, top_6, top_8, top_9, top_11, top_12, mag_13,
    top_14, top_16, top_17, top_19, top_20, mag_21, dhTiles_fold, codeTiles_fold, canon_codeTiles,
    readCov_dhTiles_0, readCov_dhTiles_1, readCov_dhTiles_2, readCov_dhTiles_3, readCov_dhTiles_4,
    readCov_dhTiles_5, readCov_dhTiles_6, readCov_dhTiles_7, readCov_dhTiles_8, readCov_dhTiles_9,
    readCov_dhTiles_10, readCov_dhTiles_11, readCov_dhTiles_12, readCov_dhTiles_13, readCov_dhTiles_14,
    readCov_dhTiles_15, readCov_dhTiles_16, readCov_dhTiles_17, readCov_dhTiles_18, readCov_dhTiles_19,
    readCov_dhTiles_20, readCov_dhTiles_21, code_0, code_1, code_2, code_3, code_4, code_5, code_6, code_7,
    code_8, code_9, code_10, code_11, code_12, code_13, code_14, code_15, code_16, code_17, code_18, code_19,
    code_20, code_21, peaks_eq, scales_eq, invs_eq, gy_eq, dw_0, dw_1, dw_2, dw_3, dw_4, dw_5, dw_6, dw_7,
    dw_8, dw_9, dw_10, dx_0, dx_1, dx_2, dx_3, dx_4, dx_5, dx_6, dx_7, ds_first, ds_second, ds_2, ds_3, fill,
    skip, readCov_codeTiles, canon_dx, canon_dw, canon_dw_fill, canon_ds]

set_option maxHeartbeats 0 in
theorem dx_B (h : ¬t.val % 96 = 0) : (outsAt0 m c t.val t.isLt).1
      = dxBlock (iblk m c 0 t) (iblk m c 1 t) (iblk m c 4 t) (iblk m c 5 t) (iblk m c 6 t) (before m c t).2.2.2.2 := by
  rw [outsAt0_B m c t h]
  frame_out [
    scratch_read, piece_0, piece_1, piece_2, piece_3, piece_4, piece_5, piece_6, piece_7, piece_8, piece_9,
    piece_10, piece_11, piece_12, piece_13, piece_14, piece_15, piece_16, piece_17, piece_18, piece_19,
    piece_20, piece_21, top_0, top_1, top_3, top_4, mag_5, top_6, top_8, top_9, top_11, top_12, mag_13,
    top_14, top_16, top_17, top_19, top_20, mag_21, dhTiles_fold, codeTiles_fold, canon_codeTiles,
    readCov_dhTiles_0, readCov_dhTiles_1, readCov_dhTiles_2, readCov_dhTiles_3, readCov_dhTiles_4,
    readCov_dhTiles_5, readCov_dhTiles_6, readCov_dhTiles_7, readCov_dhTiles_8, readCov_dhTiles_9,
    readCov_dhTiles_10, readCov_dhTiles_11, readCov_dhTiles_12, readCov_dhTiles_13, readCov_dhTiles_14,
    readCov_dhTiles_15, readCov_dhTiles_16, readCov_dhTiles_17, readCov_dhTiles_18, readCov_dhTiles_19,
    readCov_dhTiles_20, readCov_dhTiles_21, code_0, code_1, code_2, code_3, code_4, code_5, code_6, code_7,
    code_8, code_9, code_10, code_11, code_12, code_13, code_14, code_15, code_16, code_17, code_18, code_19,
    code_20, code_21, peaks_eq, scales_eq, invs_eq, gy_eq, dw_0, dw_1, dw_2, dw_3, dw_4, dw_5, dw_6, dw_7,
    dw_8, dw_9, dw_10, dx_0, dx_1, dx_2, dx_3, dx_4, dx_5, dx_6, dx_7, ds_first, ds_second, ds_2, ds_3, fill,
    skip, readCov_codeTiles, canon_dx, canon_dw, canon_dw_fill, canon_ds]

set_option maxHeartbeats 0 in
theorem dw_B (h : ¬t.val % 96 = 0) : (outsAt0 m c t.val t.isLt).2.1
      = dwBlock (iblk m c 0 t) (iblk m c 1 t) (iblk m c 2 t) (iblk m c 3 t) (before m c t).2.1 := by
  rw [outsAt0_B m c t h]
  frame_out [
    scratch_read, piece_0, piece_1, piece_2, piece_3, piece_4, piece_5, piece_6, piece_7, piece_8, piece_9,
    piece_10, piece_11, piece_12, piece_13, piece_14, piece_15, piece_16, piece_17, piece_18, piece_19,
    piece_20, piece_21, top_0, top_1, top_3, top_4, mag_5, top_6, top_8, top_9, top_11, top_12, mag_13,
    top_14, top_16, top_17, top_19, top_20, mag_21, dhTiles_fold, codeTiles_fold, canon_codeTiles,
    readCov_dhTiles_0, readCov_dhTiles_1, readCov_dhTiles_2, readCov_dhTiles_3, readCov_dhTiles_4,
    readCov_dhTiles_5, readCov_dhTiles_6, readCov_dhTiles_7, readCov_dhTiles_8, readCov_dhTiles_9,
    readCov_dhTiles_10, readCov_dhTiles_11, readCov_dhTiles_12, readCov_dhTiles_13, readCov_dhTiles_14,
    readCov_dhTiles_15, readCov_dhTiles_16, readCov_dhTiles_17, readCov_dhTiles_18, readCov_dhTiles_19,
    readCov_dhTiles_20, readCov_dhTiles_21, code_0, code_1, code_2, code_3, code_4, code_5, code_6, code_7,
    code_8, code_9, code_10, code_11, code_12, code_13, code_14, code_15, code_16, code_17, code_18, code_19,
    code_20, code_21, peaks_eq, scales_eq, invs_eq, gy_eq, dw_0, dw_1, dw_2, dw_3, dw_4, dw_5, dw_6, dw_7,
    dw_8, dw_9, dw_10, dx_0, dx_1, dx_2, dx_3, dx_4, dx_5, dx_6, dx_7, ds_first, ds_second, ds_2, ds_3, fill,
    skip, readCov_codeTiles, canon_dx, canon_dw, canon_dw_fill, canon_ds]

set_option maxHeartbeats 0 in
theorem codes_B (h : ¬t.val % 96 = 0) : (outsAt0 m c t.val t.isLt).2.2.1
      = codes (iblk m c 0 t) (iblk m c 1 t) (iblk m c 4 t) (before m c t).2.2.2.2 := by
  rw [outsAt0_B m c t h]
  frame_out [
    scratch_read, piece_0, piece_1, piece_2, piece_3, piece_4, piece_5, piece_6, piece_7, piece_8, piece_9,
    piece_10, piece_11, piece_12, piece_13, piece_14, piece_15, piece_16, piece_17, piece_18, piece_19,
    piece_20, piece_21, top_0, top_1, top_3, top_4, mag_5, top_6, top_8, top_9, top_11, top_12, mag_13,
    top_14, top_16, top_17, top_19, top_20, mag_21, dhTiles_fold, codeTiles_fold, canon_codeTiles,
    readCov_dhTiles_0, readCov_dhTiles_1, readCov_dhTiles_2, readCov_dhTiles_3, readCov_dhTiles_4,
    readCov_dhTiles_5, readCov_dhTiles_6, readCov_dhTiles_7, readCov_dhTiles_8, readCov_dhTiles_9,
    readCov_dhTiles_10, readCov_dhTiles_11, readCov_dhTiles_12, readCov_dhTiles_13, readCov_dhTiles_14,
    readCov_dhTiles_15, readCov_dhTiles_16, readCov_dhTiles_17, readCov_dhTiles_18, readCov_dhTiles_19,
    readCov_dhTiles_20, readCov_dhTiles_21, code_0, code_1, code_2, code_3, code_4, code_5, code_6, code_7,
    code_8, code_9, code_10, code_11, code_12, code_13, code_14, code_15, code_16, code_17, code_18, code_19,
    code_20, code_21, peaks_eq, scales_eq, invs_eq, gy_eq, dw_0, dw_1, dw_2, dw_3, dw_4, dw_5, dw_6, dw_7,
    dw_8, dw_9, dw_10, dx_0, dx_1, dx_2, dx_3, dx_4, dx_5, dx_6, dx_7, ds_first, ds_second, ds_2, ds_3, fill,
    skip, readCov_codeTiles, canon_dx, canon_dw, canon_dw_fill, canon_ds]

set_option maxHeartbeats 0 in
theorem ds_B (h : ¬t.val % 96 = 0) : (outsAt0 m c t.val t.isLt).2.2.2.1
      = dsBlock (iblk m c 0 t) (iblk m c 1 t) (iblk m c 4 t) (before m c t).2.2.2.2 := by
  rw [outsAt0_B m c t h]
  frame_out [
    scratch_read, piece_0, piece_1, piece_2, piece_3, piece_4, piece_5, piece_6, piece_7, piece_8, piece_9,
    piece_10, piece_11, piece_12, piece_13, piece_14, piece_15, piece_16, piece_17, piece_18, piece_19,
    piece_20, piece_21, top_0, top_1, top_3, top_4, mag_5, top_6, top_8, top_9, top_11, top_12, mag_13,
    top_14, top_16, top_17, top_19, top_20, mag_21, dhTiles_fold, codeTiles_fold, canon_codeTiles,
    readCov_dhTiles_0, readCov_dhTiles_1, readCov_dhTiles_2, readCov_dhTiles_3, readCov_dhTiles_4,
    readCov_dhTiles_5, readCov_dhTiles_6, readCov_dhTiles_7, readCov_dhTiles_8, readCov_dhTiles_9,
    readCov_dhTiles_10, readCov_dhTiles_11, readCov_dhTiles_12, readCov_dhTiles_13, readCov_dhTiles_14,
    readCov_dhTiles_15, readCov_dhTiles_16, readCov_dhTiles_17, readCov_dhTiles_18, readCov_dhTiles_19,
    readCov_dhTiles_20, readCov_dhTiles_21, code_0, code_1, code_2, code_3, code_4, code_5, code_6, code_7,
    code_8, code_9, code_10, code_11, code_12, code_13, code_14, code_15, code_16, code_17, code_18, code_19,
    code_20, code_21, peaks_eq, scales_eq, invs_eq, gy_eq, dw_0, dw_1, dw_2, dw_3, dw_4, dw_5, dw_6, dw_7,
    dw_8, dw_9, dw_10, dx_0, dx_1, dx_2, dx_3, dx_4, dx_5, dx_6, dx_7, ds_first, ds_second, ds_2, ds_3, fill,
    skip, readCov_codeTiles, canon_dx, canon_dw, canon_dw_fill, canon_ds]

theorem w_B (h : ¬t.val % 96 = 0) : (outsAt0 m c t.val t.isLt).2.2.2.2 = (before m c t).2.2.2.2 := by
  rw [outsAt0_B m c t h]
  rfl

end Cert.KernelIdeal.Block
-- ==== Proof.Spec.lean ====
/-
  THE FOUR RESULTS as functions of the nine argument arrays, on extended reals: what both programs compute.

  A token is `n : Fin 49152`, batch `n / 2048` and position `n % 2048`. `grad` is its masked gradient, `scale` its
  power-of-two scale, `code` its clipped codes, `dx` the input gradient, `dw` the weight gradient.
-/
module

public import proofs.«01_k».proof.Proof.Row
public import Idealize.ShloMosaic.Lib.Pointwise.IndexBridge

@[expose] public section

namespace Cert.Spec

open Idealize.ShloMosaic

/-- Token `n`'s row of an array of batches by positions by lanes. -/
def row {α : Type} {K : ℕ} (a : (⟨3, ![24, 2048, K]⟩ : Shape).Idx → α) (n : Fin 49152) (d : Fin K) : α :=
  a (ix3 (⟨n.val / 2048, by omega⟩ : Fin 24) (⟨n.val % 2048, by omega⟩ : Fin 2048) d)

/-- Token `n`'s entry of an array of batches by positions. -/
def tok {α : Type} (a : (⟨2, ![24, 2048]⟩ : Shape).Idx → α) (n : Fin 49152) : α :=
  a (ix2 (⟨n.val / 2048, by omega⟩ : Fin 24) (⟨n.val % 2048, by omega⟩ : Fin 2048))

variable (a0 : (⟨3, ![24, 2048, 1024]⟩ : Shape).Idx → EReal) (a1 : (⟨2, ![24, 2048]⟩ : Shape).Idx → EReal)
  (a2 : (⟨3, ![24, 2048, 2816]⟩ : Shape).Idx → EReal) (a3 : (⟨2, ![24, 2048]⟩ : Shape).Idx → EReal)
  (a4 : (⟨3, ![24, 2048, 352]⟩ : Shape).Idx → BitVec 8) (a5 : (⟨2, ![1024, 2816]⟩ : Shape).Idx → EReal)
  (a6 : (⟨1, ![1024]⟩ : Shape).Idx → EReal) (a7 : (⟨2, ![2816, 1024]⟩ : Shape).Idx → EReal)
  (a8 : (⟨1, ![1024]⟩ : Shape).Idx → EReal)

/-- The second layer's weight times its scale. -/
noncomputable def w2 (f : Fin 2816) (d : Fin 1024) : EReal := a7 (ix2 f d) * a8 (ix1 d)

/-- Token `n`'s masked gradient. -/
noncomputable def grad (n : Fin 49152) : Fin 2816 → EReal := Row.dh (row a0 n) (tok a1 n) (row a4 n) (w2 a7 a8)

/-- Token `n`'s scale. -/
noncomputable def scale (n : Fin 49152) : EReal := Row.scale (Row.peak (grad a0 a1 a4 a7 a8 n))

/-- Token `n`'s code at feature `f`. -/
noncomputable def code (n : Fin 49152) (f : Fin 2816) : EReal :=
  Row.code (grad a0 a1 a4 a7 a8 n f) (Row.inv (Row.peak (grad a0 a1 a4 a7 a8 n)))

/-- The gradient of the input. -/
noncomputable def dx (n : Fin 49152) (d : Fin 1024) : EReal :=
  (∑ f, code a0 a1 a4 a7 a8 n f * a5 (ix2 d f)) * scale a0 a1 a4 a7 a8 n * a6 (ix1 d)

/-- Token `n`'s term of the gradient of the second layer's weight, and the gradient. -/
noncomputable def dwTerm (f : Fin 2816) (d : Fin 1024) (n : Fin 49152) : EReal :=
  row a2 n f * tok a3 n * (row a0 n d * tok a1 n)
noncomputable def dw (f : Fin 2816) (d : Fin 1024) : EReal := ∑ n, dwTerm a0 a1 a2 a3 f d n

end Cert.Spec
-- ==== Proof.Entry.lean ====
/-
  WHAT A POINT READS: every entry of every input block, by the argument array that it comes from. Point `t` reads tokens
  `512 t … 512 t + 511`; the weights and their scales are the same blocks at every point.
-/
module

public import proofs.«01_k».proof.Proof.Outs
public import proofs.«01_k».proof.Proof.Spec

@[expose] public section

namespace Cert.KernelIdeal.Block

open Idealize.ShloMosaic Idealize.ShloMosaic.TcCoe Idealize.SL.Sem Cert.KernelIdeal.Gen

variable (m : (ℓ : Loc nD τ sig) → Buf (Elt Ideal) ℓ) (c : Dev nD) (t : Fin cfg0.N)

theorem idx : ∀ t : Fin cfg0.N, win0_0.index t = ![t.val, 0] ∧ win0_1.index t = ![t.val, 0, 0] ∧ win0_2.index t = ![t.val, 0]
    ∧ win0_3.index t = ![t.val, 0, 0] ∧ win0_4.index t = ![t.val, 0] ∧ win0_5.index t = ![0, 0] ∧ win0_6.index t = ![0, 0]
    ∧ win0_7.index t = ![0, 0] ∧ win0_8.index t = ![0, 0] :=
  (by decide +kernel : ∀ t : Fin grid0.N, win0_0.index t = ![t.val, 0] ∧ win0_1.index t = ![t.val, 0, 0] ∧ win0_2.index t = ![t.val, 0]
    ∧ win0_3.index t = ![t.val, 0, 0] ∧ win0_4.index t = ![t.val, 0] ∧ win0_5.index t = ![0, 0] ∧ win0_6.index t = ![0, 0]
    ∧ win0_7.index t = ![0, 0] ∧ win0_8.index t = ![0, 0])

theorem points : cfg0.N = 96 := N_0

/-- Token `p` of point `t`. -/
def token (p : Fin 512) : Fin 49152 := ⟨512 * t.val + p.val, by
  have h : t.val < 96 := lt_of_lt_of_eq t.isLt points
  omega⟩

theorem read_0 (p : Fin 512) (d : Fin 1024) :
    iblk m c 0 t (ix2 p d) = Spec.row (m ((c : Thread nD τ).loc main_arg0)) (token t p) d := by
  unfold Spec.row token
  blk_ext! [iblk, V, idx t]

theorem read_1 (p : Fin 512) : iblk m c 1 t (ix3 0 0 p) = Spec.tok (m ((c : Thread nD τ).loc main_arg1)) (token t p) := by
  unfold Spec.tok token
  blk_ext! [iblk, V, idx t]

theorem read_2 (p : Fin 512) (f : Fin 2816) :
    iblk m c 2 t (ix2 p f) = Spec.row (m ((c : Thread nD τ).loc main_arg2)) (token t p) f := by
  unfold Spec.row token
  blk_ext! [iblk, V, idx t]

theorem read_3 (p : Fin 512) : iblk m c 3 t (ix3 0 0 p) = Spec.tok (m ((c : Thread nD τ).loc main_arg3)) (token t p) := by
  unfold Spec.tok token
  blk_ext! [iblk, V, idx t]

theorem read_4 (p : Fin 512) (b : Fin 352) :
    iblk m c 4 t (ix2 p b) = Spec.row (m ((c : Thread nD τ).loc main_arg4)) (token t p) b := by
  unfold Spec.row token
  blk_ext! [iblk, V, idx t]

theorem read_5 (d : Fin 1024) (f : Fin 2816) :
    iblk m c 5 t (ix2 d f) = m ((c : Thread nD τ).loc main_arg5) (ix2 d f) := by
  blk_ext! [iblk, V, idx t]

theorem read_6 (d : Fin 1024) : iblk m c 6 t (ix2 0 d) = m ((c : Thread nD τ).loc main_arg6) (ix1 d) := by
  blk_ext! [iblk, V, idx t]

theorem read_7 (f : Fin 2816) (d : Fin 1024) :
    iblk m c 7 t (ix2 f d) = m ((c : Thread nD τ).loc main_arg7) (ix2 f d) := by
  blk_ext! [iblk, V, idx t]

theorem read_8 (d : Fin 1024) : iblk m c 8 t (ix2 0 d) = m ((c : Thread nD τ).loc main_arg8) (ix1 d) := by
  blk_ext! [iblk, V, idx t]

end Cert.KernelIdeal.Block
-- ==== Proof.Sweep.lean ====
/-
  ALL THE POINTS: the carried weight is the same after every point, so each point's blocks are the argument arrays' `Spec`
  values at that point's tokens, and the weight gradient after point `n` is the sum over the tokens below `512 (n + 1)`.
-/
module

public import proofs.«01_k».proof.Proof.Entry

@[expose] public section

namespace Cert.KernelIdeal.Block

open Idealize.ShloMosaic Idealize.ShloMosaic.TcCoe Idealize.SL.Sem Cert.KernelIdeal.Gen

variable (m : (ℓ : Loc nD τ sig) → Buf (Elt Ideal) ℓ) (c : Dev nD) (t : Fin cfg0.N)

/-! ## The `Spec` values of the argument arrays -/

noncomputable abbrev w2A : Fin 2816 → Fin 1024 → EReal :=
  Spec.w2 (m ((c : Thread nD τ).loc main_arg7)) (m ((c : Thread nD τ).loc main_arg8))
noncomputable abbrev gradA : Fin 49152 → Fin 2816 → EReal :=
  Spec.grad (m ((c : Thread nD τ).loc main_arg0)) (m ((c : Thread nD τ).loc main_arg1)) (m ((c : Thread nD τ).loc main_arg4))
    (m ((c : Thread nD τ).loc main_arg7)) (m ((c : Thread nD τ).loc main_arg8))
noncomputable abbrev scaleA : Fin 49152 → EReal :=
  Spec.scale (m ((c : Thread nD τ).loc main_arg0)) (m ((c : Thread nD τ).loc main_arg1)) (m ((c : Thread nD τ).loc main_arg4))
    (m ((c : Thread nD τ).loc main_arg7)) (m ((c : Thread nD τ).loc main_arg8))
noncomputable abbrev codeA : Fin 49152 → Fin 2816 → EReal :=
  Spec.code (m ((c : Thread nD τ).loc main_arg0)) (m ((c : Thread nD τ).loc main_arg1)) (m ((c : Thread nD τ).loc main_arg4))
    (m ((c : Thread nD τ).loc main_arg7)) (m ((c : Thread nD τ).loc main_arg8))
noncomputable abbrev dxA : Fin 49152 → Fin 1024 → EReal :=
  Spec.dx (m ((c : Thread nD τ).loc main_arg0)) (m ((c : Thread nD τ).loc main_arg1)) (m ((c : Thread nD τ).loc main_arg4))
    (m ((c : Thread nD τ).loc main_arg5)) (m ((c : Thread nD τ).loc main_arg6)) (m ((c : Thread nD τ).loc main_arg7))
    (m ((c : Thread nD τ).loc main_arg8))
noncomputable abbrev dwA : Fin 2816 → Fin 1024 → EReal :=
  Spec.dw (m ((c : Thread nD τ).loc main_arg0)) (m ((c : Thread nD τ).loc main_arg1)) (m ((c : Thread nD τ).loc main_arg2))
    (m ((c : Thread nD τ).loc main_arg3))

/-! ## The carried weight -/

/-- The second layer's weight times its scale, as the carried array. -/
noncomputable def wA : Vec Ideal S2816x1024 .bf16 := fun y => w2A m c (y 0) (y 1)

theorem pay3_apply (x7 : Vec Ideal S2816x1024 .fp8e4m3) (x8 : Vec Ideal S1x1024 .f32) (f : Fin 2816) (d : Fin 1024) :
    k0_pay3 x7 x8 (ix2 f d) = x7 (ix2 f d) * x8 (ix2 0 d) := by
  pointwise [k0_pay3]

theorem weight_apply (f : Fin 2816) (d : Fin 1024) : weight m c t (ix2 f d) = w2A m c f d :=
  (pay3_apply _ _ f d).trans (by rw [read_7, read_8]; rfl)

theorem weight_eq : weight m c t = wA m c := by
  funext y
  rw [eq_ix2 y]
  exact weight_apply m c t (y 0) (y 1)

theorem carried : ∀ (n : ℕ) (h : n < cfg0.N), (outsAt0 m c n h).2.2.2.2 = wA m c
  | 0, h => (w_A m c ⟨0, h⟩ rfl).trans (weight_eq m c ⟨0, h⟩)
  | n + 1, h => by
    have hN := points
    have hB : ¬(⟨n + 1, h⟩ : Fin cfg0.N).val % 96 = 0 := by
      simp only []
      omega
    exact (w_B m c ⟨n + 1, h⟩ hB).trans (carried n _)

/-! ## One point's blocks -/

theorem dh_block (p : Fin 512) :
    dhBlock (iblk m c 0 t) (iblk m c 1 t) (iblk m c 4 t) (wA m c) p = gradA m c (token t p) := by
  unfold dhBlock gradA Spec.grad
  congr 1
  · funext d; exact read_0 m c t p d
  · exact read_1 m c t p
  · funext b; exact read_4 m c t p b

theorem scale_block (p : Fin 512) :
    scale (iblk m c 0 t) (iblk m c 1 t) (iblk m c 4 t) (wA m c) p = scaleA m c (token t p) := by
  unfold scale peak
  rw [dh_block]
  rfl

theorem code_block (p : Fin 512) (f : Fin 2816) :
    codeBlock (iblk m c 0 t) (iblk m c 1 t) (iblk m c 4 t) (wA m c) p f = codeA m c (token t p) f := by
  unfold codeBlock inv peak
  rw [dh_block]
  rfl

theorem dx_block (p : Fin 512) (d : Fin 1024) :
    dxBlock (iblk m c 0 t) (iblk m c 1 t) (iblk m c 4 t) (iblk m c 5 t) (iblk m c 6 t) (wA m c) (ix2 p d)
      = dxA m c (token t p) d := by
  show (∑ f : Fin 2816, codeBlock (iblk m c 0 t) (iblk m c 1 t) (iblk m c 4 t) (wA m c) p f * iblk m c 5 t (ix2 d f))
    * scale (iblk m c 0 t) (iblk m c 1 t) (iblk m c 4 t) (wA m c) p * iblk m c 6 t (ix2 0 d) = _
  rw [scale_block, read_6]
  simp only [code_block, read_5]
  rfl

theorem dx_at : (outsAt0 m c t.val t.isLt).1 = fun y => dxA m c (token t (y 0)) (y 1) := by
  have h : (outsAt0 m c t.val t.isLt).1 = dxBlock (iblk m c 0 t) (iblk m c 1 t) (iblk m c 4 t) (iblk m c 5 t) (iblk m c 6 t)
      (wA m c) := by
    by_cases h : t.val % 96 = 0
    · rw [dx_A m c t h, weight_eq]
    · rw [dx_B m c t h, carried]
  rw [h]
  funext y
  rw [eq_ix2 y]
  exact dx_block m c t (y 0) (y 1)

theorem codes_at : (outsAt0 m c t.val t.isLt).2.2.1 = fun y => codeA m c (token t (y 0)) (y 1) := by
  have h : (outsAt0 m c t.val t.isLt).2.2.1 = codes (iblk m c 0 t) (iblk m c 1 t) (iblk m c 4 t)
      (wA m c) := by
    by_cases h : t.val % 96 = 0
    · rw [codes_A m c t h, weight_eq]
    · rw [codes_B m c t h, carried]
  rw [h]
  funext y
  exact code_block m c t (y 0) (y 1)

theorem ds_at : (outsAt0 m c t.val t.isLt).2.2.2.1 = fun y => scaleA m c (token t (y 2)) := by
  have h : (outsAt0 m c t.val t.isLt).2.2.2.1 = dsBlock (iblk m c 0 t) (iblk m c 1 t) (iblk m c 4 t)
      (wA m c) := by
    by_cases h : t.val % 96 = 0
    · rw [ds_A m c t h, weight_eq]
    · rw [ds_B m c t h, carried]
  rw [h]
  funext y
  exact scale_block m c t (y 2)

/-! ## The weight gradient -/

/-- Token `j`'s term of the weight gradient, zero past the last token. -/
noncomputable def term (f : Fin 2816) (d : Fin 1024) (j : ℕ) : EReal :=
  if h : j < 49152 then
    Spec.dwTerm (m ((c : Thread nD τ).loc main_arg0)) (m ((c : Thread nD τ).loc main_arg1))
      (m ((c : Thread nD τ).loc main_arg2)) (m ((c : Thread nD τ).loc main_arg3)) f d ⟨j, h⟩
  else 0

theorem dwBlock_apply (x0 : Vec Ideal S512x1024 .fp8e5m2) (x1 : Vec Ideal S1x1x512 .f32) (x2 : Vec Ideal S512x2816 .fp8e4m3)
    (x3 : Vec Ideal S1x1x512 .f32) (P : Vec Ideal S2816x1024 .f32) (f : Fin 2816) (d : Fin 1024) :
    dwBlock x0 x1 x2 x3 P (ix2 f d)
      = P (ix2 f d) + ∑ p : Fin 512, x2 (ix2 p f) * x3 (ix3 0 0 p) * (x0 (ix2 p d) * x1 (ix3 0 0 p)) := rfl

theorem dw_block (P : Vec Ideal S2816x1024 .f32) (f : Fin 2816) (d : Fin 1024) :
    dwBlock (iblk m c 0 t) (iblk m c 1 t) (iblk m c 2 t) (iblk m c 3 t) P (ix2 f d)
      = P (ix2 f d) + ∑ p ∈ Finset.range 512, term m c f d (512 * t.val + p) := by
  rw [dwBlock_apply, Finset.sum_range]
  congr 1
  refine Finset.sum_congr rfl fun p _ => ?_
  have h : 512 * t.val + p.val < 49152 := (token t p).isLt
  unfold term
  rw [dif_pos h, read_2, read_3, read_0, read_1]
  rfl

theorem zero_apply (f : Fin 2816) (d : Fin 1024) : k0_pay4 (F := Ideal) (ix2 f d) = 0 := by
  pointwise [k0_pay4]

theorem dw_at : ∀ (n : ℕ) (h : n < cfg0.N) (f : Fin 2816) (d : Fin 1024),
    (outsAt0 m c n h).2.1 (ix2 f d) = ∑ j ∈ Finset.range (512 * n + 512), term m c f d j
  | 0, h, f, d => by
    rw [show (outsAt0 m c 0 h).2.1 = _ from dw_A m c ⟨0, h⟩ rfl, dw_block, Finset.sum_range_add, zero_apply]
    rfl
  | n + 1, h, f, d => by
    have hN := points
    have hB : ¬(⟨n + 1, h⟩ : Fin cfg0.N).val % 96 = 0 := by
      simp only []
      omega
    rw [show (outsAt0 m c (n + 1) h).2.1 = _ from dw_B m c ⟨n + 1, h⟩ hB, dw_block, Finset.sum_range_add]
    congr 1
    exact dw_at n _ f d

theorem dw_last (h : 95 < cfg0.N) (f : Fin 2816) (d : Fin 1024) : (outsAt0 m c 95 h).2.1 (ix2 f d) = dwA m c f d := by
  rw [dw_at, show 512 * 95 + 512 = 49152 from rfl, Finset.sum_range]
  refine Finset.sum_congr rfl fun n _ => ?_
  unfold term
  rw [dif_pos n.isLt]

end Cert.KernelIdeal.Block
-- ==== Proof.Result.lean ====
/-
  THE KERNEL'S FOUR RESULT ARRAYS, index by index: the `Spec` values of its argument arrays.
-/
module

public import proofs.«01_k».proof.Proof.Sweep
public import proofs.«01_k».proof.Proof.Gen.KernelIdeal.Value

@[expose] public section

namespace Cert.KernelIdeal.Block

open Idealize.ShloMosaic Idealize.ShloMosaic.TcCoe Idealize.SL.Sem Cert.KernelIdeal.Gen Cert.KernelIdeal.Value

variable (m : (ℓ : Loc nD τ sig) → Buf (Elt Ideal) ℓ) (c : Dev nD)

/-- The token that point `q / 512` holds at place `q % 512` is `q`. -/
theorem token_divmod (q : Fin 49152) (t : Fin cfg0.N) (ht : t.val = q.val / 512) (p : Fin 512) (hp : p.val = q.val % 512) :
    token t p = q := Fin.ext (by
  show 512 * t.val + p.val = q.val
  omega)

theorem result_dx (n : Fin 49152) (d : Fin 1024) : G9 m c (ix2 n d) = dxA m c n d := by
  have hN := points
  have hd : d.val / 1024 = 0 := Nat.div_eq_of_lt d.isLt
  have hp : pt9Of (ix2 n d) = n.val / 512 := by
    show 1 * (n.val / 512 - 0) + 1 * (d.val / 1024 - 0) = _
    omega
  have hlt : pt9Of (ix2 n d) < cfg0.N := by omega
  unfold G9
  rw [dif_pos hlt, ← outsAt0_sweep m c (pt9Of (ix2 n d)) hlt, dx_at m c ⟨pt9Of (ix2 n d), hlt⟩]
  exact congrArg₂ (dxA m c) (token_divmod n _ hp _ rfl) (Fin.ext (Nat.mod_eq_of_lt d.isLt))

theorem result_codes (n : Fin 49152) (f : Fin 2816) : G11 m c (ix2 n f) = codeA m c n f := by
  have hN := points
  have hd : f.val / 2816 = 0 := Nat.div_eq_of_lt f.isLt
  have hp : pt11Of (ix2 n f) = n.val / 512 := by
    show 1 * (n.val / 512 - 0) + 1 * (f.val / 2816 - 0) = _
    omega
  have hlt : pt11Of (ix2 n f) < cfg0.N := by omega
  unfold G11
  rw [dif_pos hlt, ← outsAt0_sweep m c (pt11Of (ix2 n f)) hlt, codes_at m c ⟨pt11Of (ix2 n f), hlt⟩]
  exact congrArg₂ (codeA m c) (token_divmod n _ hp _ rfl) (Fin.ext (Nat.mod_eq_of_lt f.isLt))

theorem result_ds (b : Fin 96) (p : Fin 512) :
    G12 m c (ix3 b 0 p) = scaleA m c ⟨512 * b.val + p.val, by omega⟩ := by
  have hN := points
  have hd : p.val / 512 = 0 := Nat.div_eq_of_lt p.isLt
  have hp : pt12Of (ix3 b 0 p) = b.val := by
    show 1 * (b.val / 1 - 0) + 1 * (0 / 1 - 0) + 1 * (p.val / 512 - 0) = _
    omega
  have hlt : pt12Of (ix3 b 0 p) < cfg0.N := by omega
  unfold G12
  rw [dif_pos hlt, ← outsAt0_sweep m c (pt12Of (ix3 b 0 p)) hlt, ds_at m c ⟨pt12Of (ix3 b 0 p), hlt⟩]
  refine congrArg (scaleA m c) (Fin.ext ?_)
  show 512 * pt12Of (ix3 b 0 p) + p.val % 512 = 512 * b.val + p.val
  omega

theorem result_dw (f : Fin 2816) (d : Fin 1024) : G10 m c (ix2 f d) = dwA m c f d := by
  have hlt : 95 < cfg0.N := lt_of_lt_of_eq (by decide) points.symm
  rw [G10_last, ← outsAt0_sweep m c 95 hlt]
  exact dw_last m c hlt f d

end Cert.KernelIdeal.Block
-- ==== Proof.RefRow.lean ====
/-
  THE REFERENCE'S ROW: its operations, read one token at a time, are those of one token's row (`Cert.Row`).

  A row's maximum is a supremum, 2 to an integer is the power of two, the sum of 252 comparisons is the level, and the
  level less 126 (or zero at level zero) is the exponent.
-/
module

public import proofs.«01_k».proof.Proof.Spec
public import proofs.«01_k».proof.Proof.Gen.ReferenceIdeal.Frame
public import Idealize.ShloMosaic.Lib.Pipeline.ValueKit

@[expose] public section

namespace Cert.ReferenceIdeal.Block

open Idealize.ShloMosaic Idealize.SL.Sem Cert.ReferenceIdeal.Gen

/-! ## A row's maximum -/

theorem fold_eq_sup {K : ℕ} (b : EReal) (hb : b = ⊥) (g : Fin K → EReal) :
    (Finset.univ : Finset (Fin K)).fold max b g = Finset.univ.sup g := by
  refine eq_of_forall_ge_iff fun c => ?_
  rw [Finset.fold_max_le, Finset.sup_le_iff, hb]
  exact ⟨fun h => h.2, fun h => ⟨bot_le, h⟩⟩

theorem lift_row {N K : ℕ} (h : (⟨2, ![N, K]⟩ : Shape).Reduces [1] ⟨1, ![N]⟩) (n : Fin N) (k : Fin K) :
    h.lift (ix1 n) k = ix2 n k := by
  funext c
  fin_cases c <;> rfl

theorem maxRow {N K : ℕ} (h : (⟨2, ![N, K]⟩ : Shape).Reduces [1] ⟨1, ![N]⟩) (v : FVec Ideal ⟨2, ![N, K]⟩ .f32)
    (hφ : FKind.Formats .f32) (hacc : 0xFF800000#32 = FKind.maximumf.neutral .f32 hφ) (n : Fin N) :
    multiReduction (F := Ideal) .maximumf [1] ⟨1, ![N]⟩ v 0xFF800000#32 h hφ hacc (ix1 n)
      = (Finset.univ : Finset (Fin K)).sup fun k => v (ix2 n k) := by
  rw [Ideal.multiReduction_maximumf_single]
  refine (fold_eq_sup (K := K) _ ?_ _).trans ?_
  · show Ideal.ofBits .f32 0xFF800000#32 = ⊥
    simp [Ideal.ofBits, Ideal.ieee]
  · exact congrArg (Finset.univ : Finset (Fin K)).sup (funext fun k => congrArg v (lift_row h n k))

/-! ## Powers, levels and exponents -/

theorem exp2_int (e : ℤ) : FloatOps.exp2 (F := Ideal) (φ := .f32) (((e : ℝ) : EReal)) = Row.pow e := by
  show Ideal.exp2 _ = _
  rw [Ideal.exp2_coe]
  unfold Row.pow
  exact congrArg _ (Real.rpow_intCast 2 e)

theorem iota_sub (j : Fin 252) : (IntOp.subi (BitVec.ofNat 32 j.val) 126#32).toInt = (j.val : ℤ) - 126 := by
  revert j; decide +kernel

theorem coe_sum {ι : Type} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

theorem bit_term (P : Prop) [Decidable P] :
    FloatOps.sitofp (F := Ideal) .f32 (BitVec.setWidth 32 (BitVec.ofBool (decide P))) = (((if P then 1 else 0 : ℝ)) : EReal) := by
  show ((((BitVec.setWidth 32 (BitVec.ofBool (decide P))).toInt : ℤ) : ℝ) : EReal) = _
  by_cases h : P <;> simp [h]

theorem level_sum (x : EReal) :
    ∑ j : Fin 252, FloatOps.sitofp (F := Ideal) .f32 (BitVec.setWidth 32 (BitVec.ofBool (decide (Row.pow ((j.val : ℤ) - 126) ≤ x))))
      = (((Row.level x : ℕ) : ℝ) : EReal) := by
  rw [Finset.sum_congr rfl fun j _ => bit_term _, coe_sum]
  unfold Row.level
  rw [Finset.card_filter]
  push_cast
  rfl

theorem exponent_eq (x : EReal) :
    Scalar.select (BitVec.ofBool (decide ((((Row.level x : ℕ) : ℝ) : EReal) = 0))) (0 : EReal)
        ((((Row.level x : ℕ) : ℝ) : EReal) - Ideal.ofBits .f32 0x42FC0000#32)
      = (((Row.expo x : ℤ) : ℝ) : EReal) := by
  have h126 : Ideal.ofBits .f32 0x42FC0000#32 = ((126 : ℝ) : EReal) := by
    simp [Ideal.ofBits, Ideal.ieee]
    rw [← EReal.coe_mul]
    norm_num
  have hz : ((((Row.level x : ℕ) : ℝ) : EReal) = 0) ↔ Row.level x = 0 := by
    rw [EReal.coe_eq_zero]; exact Nat.cast_eq_zero
  unfold Row.expo
  by_cases h : Row.level x = 0
  · simp [h, Scalar.select]
  · have h0 : ¬ ((((Row.level x : ℕ) : ℝ) : EReal) = 0) := fun e => h (hz.mp e)
    rw [if_neg h, h126, ← EReal.coe_sub, decide_eq_false h0]
    simp [Scalar.select]

/-! ## The reference's vectors of peaks, powers and levels -/

noncomputable def peaks (v : FVec Ideal S49152x2816 .f32) : FVec Ideal S49152 .f32 :=
  mulf (multiReduction .maximumf [1] S49152 (absf v) 0xFF800000#32 reduces_S49152x2816_S49152 (.inl rfl) rfl)
    (broadcast S49152 (Scalar.ofBits (F := Ideal) .f32 0x37924925#32))

noncomputable def powers : FVec Ideal S1x252 .f32 :=
  exp2 (sitofp .f32 (subi (iota .tc S1x252 32 [1] iota_S1x252_d1_w32) (broadcast S1x252 126#32)))

noncomputable def levels (p : FVec Ideal S49152 .f32) (q : FVec Ideal S1x252 .f32) : FVec Ideal S49152 .f32 :=
  multiReduction .add [1] S49152 (sitofp .f32 (extui 32 (cmpf .oge
    (broadcastTo S49152x252 (shapeCast S49152x1 p shapeCasts_S49152_S49152x1) broadcasts_S49152x1_S49152x252)
    (broadcastTo S49152x252 q broadcasts_S1x252_S49152x252)) natLt_1_32)) 0x00000000#32 reduces_S49152x252_S49152 (.inl rfl) rfl

theorem scaled_apply {s : Shape} (a : FVec Ideal s .f32) (b : BitVec 32) (i : s.Idx) :
    mulf a (broadcast s (Scalar.ofBits (F := Ideal) .f32 b)) i = a i * Ideal.ofBits .f32 b := rfl

theorem sup_abs {N K : ℕ} (v : FVec Ideal ⟨2, ![N, K]⟩ .f32) (n : Fin N) :
    ((Finset.univ : Finset (Fin K)).sup fun k => absf v (ix2 n k)) = Finset.univ.sup fun k => Row.mag (v (ix2 n k)) := rfl

theorem peaks_apply (v : FVec Ideal S49152x2816 .f32) (n : Fin 49152) : peaks v (ix1 n) = Row.peak fun f => v (ix2 n f) := by
  unfold peaks Row.peak
  rw [scaled_apply]
  have h := (maxRow reduces_S49152x2816_S49152 (absf v) (.inl rfl) rfl n).trans (sup_abs v n)
  generalize multiReduction .maximumf [1] S49152 (absf v) 0xFF800000#32 reduces_S49152x2816_S49152 (.inl rfl) rfl = r at h ⊢
  rw [h]

theorem powers_apply (j : Fin 252) : powers (ix2 0 j) = Row.pow ((j.val : ℤ) - 126) := by
  pointwise [powers]
  have : FloatOps.sitofp (F := Ideal) .f32 (IntOp.subi (BitVec.ofNat 32 j.val) 126#32) = ((((j.val : ℤ) - 126 : ℤ) : ℝ) : EReal) :=
    congrArg (fun z : ℤ => ((z : ℝ) : EReal)) (iota_sub j)
  exact (congrArg (FloatOps.exp2 (F := Ideal) (φ := .f32)) this).trans (exp2_int _)

theorem levels_apply (p : FVec Ideal S49152 .f32) (q : FVec Ideal S1x252 .f32)
    (hq : ∀ j : Fin 252, q (ix2 0 j) = Row.pow ((j.val : ℤ) - 126)) (n : Fin 49152) :
    levels p q (ix1 n) = (((Row.level (p (ix1 n)) : ℕ) : ℝ) : EReal) := by
  pointwise [levels]
  simp only [hq]
  exact level_sum _

end Cert.ReferenceIdeal.Block
-- ==== Proof.RefPay.lean ====
/-
  THE REFERENCE'S RESULTS at an index, from the arrays its body loads: the masked gradient of a token, the token's
  scale and codes (those of `Cert.Row`), and the two products.
-/
module

public import proofs.«01_k».proof.Proof.RefRow

@[expose] public section

namespace Cert.ReferenceIdeal.Block

open Idealize.ShloMosaic Idealize.SL.Sem Cert.ReferenceIdeal.Gen

variable (x0 : Vec Ideal S49152x1024 .fp8e5m2) (x1 : Vec Ideal S49152x1 .f32) (x2 : Vec Ideal S49152x2816 .fp8e4m3)
  (x3 : Vec Ideal S49152x1 .f32) (x4 : Vec Ideal S49152x2816 .i32) (x5 : Vec Ideal S1024x2816 .fp8e4m3)
  (x6 : Vec Ideal S1x1024 .f32) (x7 : Vec Ideal S2816x1024 .fp8e4m3) (x8 : Vec Ideal S1x1024 .f32)

/-! ## At generic operands -/

theorem codes_of (a : FVec Ideal S49152x2816 .f32) (b : IVec S49152 1) (d : FVec Ideal S49152 .f32) (n : Fin 49152)
    (f : Fin 2816) : k0_pay8 (F := Ideal) a b d (ix2 n f)
      = Row.code (a (ix2 n f)) (FloatOps.exp2 (F := Ideal) (φ := .f32) (0 - k0_pay6 (F := Ideal) b d (ix1 n))) := by
  pointwise [k0_pay8]
  rfl

theorem scales_of (b : IVec S49152 1) (d : FVec Ideal S49152 .f32) (n : Fin 49152) :
    k0_pay7 (F := Ideal) b d (ix1 n) = FloatOps.exp2 (F := Ideal) (φ := .f32) (k0_pay6 (F := Ideal) b d (ix1 n)) := rfl

theorem laid_of (b : IVec S49152 1) (d : FVec Ideal S49152 .f32) (q : Fin 96) (p : Fin 512) :
    k0_pay9 (F := Ideal) b d (ix3 q 0 p) = k0_pay7 (F := Ideal) b d (ix1 ⟨512 * q.val + p.val, by omega⟩) := by
  pointwise [k0_pay9]
  have e : q.val * 512 + p.val = 512 * q.val + p.val := by omega
  simp only [e]

theorem dx_of (a : FVec Ideal S49152x2816 .f32) (b : IVec S49152 1) (d : FVec Ideal S49152 .f32) (n : Fin 49152)
    (l : Fin 1024) : k0_pay10 (F := Ideal) a b d x5 x6 (ix2 n l)
      = (∑ f : Fin 2816, k0_pay8 (F := Ideal) a b d (ix2 n f) * x5 (ix2 l f)) * k0_pay7 (F := Ideal) b d (ix1 n) * x6 (ix2 0 l) := by
  pointwise [k0_pay10]

theorem dw_of (f : Fin 2816) (l : Fin 1024) : k0_pay1 (F := Ideal) (k0_pay11 x2) (k0_pay12 x3) x0 x1 (ix2 f l)
      = ∑ n : Fin 49152, x2 (ix2 n f) * x3 (ix2 n 0) * (x0 (ix2 n l) * x1 (ix2 n 0)) := by
  pointwise [k0_pay1, k0_pay11, k0_pay12]

theorem zero_of (q : FVec Ideal S49152 .f32) (n : Fin 49152) :
    cmpf .oeq q (broadcast S49152 (Scalar.ofBits (F := Ideal) .f32 0x00000000#32)) (ix1 n) = BitVec.ofBool (decide (q (ix1 n) = 0)) := by
  pointwise

theorem less_of (q : FVec Ideal S49152 .f32) (n : Fin 49152) :
    subf q (broadcast S49152 (Scalar.ofBits (F := Ideal) .f32 0x42FC0000#32)) (ix1 n) = q (ix1 n) - Ideal.ofBits .f32 0x42FC0000#32 := by
  pointwise

theorem pick_of (b : IVec S49152 1) (d : FVec Ideal S49152 .f32) (n : Fin 49152) :
    k0_pay6 (F := Ideal) b d (ix1 n) = Scalar.select (b (ix1 n)) 0 (d (ix1 n)) := by
  pointwise [k0_pay6]

/-! ## At the loaded arrays -/

/-- A token's masked gradient, from the loaded arrays. -/
theorem grad_at (n : Fin 49152) (f : Fin 2816) : k0_pay2 (F := Ideal) x7 x8 x0 x4 x1 (ix2 n f)
      = if x4 (ix2 n f) ≠ 0#32 then (∑ d : Fin 1024, x0 (ix2 n d) * (x7 (ix2 f d) * x8 (ix2 0 d))) * x1 (ix2 n 0) else 0 := by
  pointwise [k0_pay2]
  by_cases h : x4 (ix2 n f) = 0#32
  · simp [h, Scalar.select, IntOp.cmpi]
  · have hb : (x4 (ix2 n f) != 0#32) = true := by simpa using h
    simp [h, hb, Scalar.select, IntOp.cmpi]

theorem pay3_eq : k0_pay3 (F := Ideal) x7 x8 x0 x4 x1 = levels (peaks (k0_pay2 x7 x8 x0 x4 x1)) powers := rfl

theorem level_at (n : Fin 49152) : k0_pay3 (F := Ideal) x7 x8 x0 x4 x1 (ix1 n)
      = (((Row.level (Row.peak fun f => k0_pay2 (F := Ideal) x7 x8 x0 x4 x1 (ix2 n f)) : ℕ) : ℝ) : EReal) := by
  rw [pay3_eq, levels_apply _ _ powers_apply, peaks_apply]

theorem expo_at (n : Fin 49152) :
    k0_pay6 (F := Ideal) (k0_pay4 (F := Ideal) x7 x8 x0 x4 x1) (k0_pay5 (F := Ideal) x7 x8 x0 x4 x1) (ix1 n)
      = (((Row.expo (Row.peak fun f => k0_pay2 (F := Ideal) x7 x8 x0 x4 x1 (ix2 n f)) : ℤ) : ℝ) : EReal) := by
  unfold k0_pay4 k0_pay5
  have h := level_at x0 x1 x4 x7 x8 n
  generalize k0_pay3 (F := Ideal) x7 x8 x0 x4 x1 = q at h ⊢
  rw [pick_of, zero_of, less_of, h]
  exact exponent_eq _

theorem scale_at (n : Fin 49152) :
    k0_pay7 (F := Ideal) (k0_pay4 (F := Ideal) x7 x8 x0 x4 x1) (k0_pay5 (F := Ideal) x7 x8 x0 x4 x1) (ix1 n)
      = Row.scale (Row.peak fun f => k0_pay2 (F := Ideal) x7 x8 x0 x4 x1 (ix2 n f)) := by
  rw [scales_of, expo_at, exp2_int]
  rfl

theorem code_at (n : Fin 49152) (f : Fin 2816) :
    k0_pay8 (F := Ideal) (k0_pay2 (F := Ideal) x7 x8 x0 x4 x1) (k0_pay4 (F := Ideal) x7 x8 x0 x4 x1) (k0_pay5 (F := Ideal) x7 x8 x0 x4 x1) (ix2 n f)
      = Row.code (k0_pay2 (F := Ideal) x7 x8 x0 x4 x1 (ix2 n f)) (Row.inv (Row.peak fun f => k0_pay2 (F := Ideal) x7 x8 x0 x4 x1 (ix2 n f))) := by
  rw [codes_of, expo_at]
  generalize Row.peak _ = x
  have : (0 : EReal) - (((Row.expo x : ℤ) : ℝ) : EReal) = ((((-Row.expo x : ℤ)) : ℝ) : EReal) := by
    rw [zero_sub, ← EReal.coe_neg, Int.cast_neg]
  rw [this, exp2_int]
  rfl

end Cert.ReferenceIdeal.Block
-- ==== Proof.RefSpec.lean ====
/-
  THE REFERENCE'S RESULTS from arrays that read as the arguments do: the four `Spec` functions.
-/
module

public import proofs.«01_k».proof.Proof.RefPay

@[expose] public section

namespace Cert.ReferenceIdeal.Block

open Idealize.ShloMosaic Idealize.SL.Sem Cert.ReferenceIdeal.Gen

variable (x0 : Vec Ideal S49152x1024 .fp8e5m2) (x1 : Vec Ideal S49152x1 .f32) (x2 : Vec Ideal S49152x2816 .fp8e4m3)
  (x3 : Vec Ideal S49152x1 .f32) (x4 : Vec Ideal S49152x2816 .i32) (x5 : Vec Ideal S1024x2816 .fp8e4m3)
  (x6 : Vec Ideal S1x1024 .f32) (x7 : Vec Ideal S2816x1024 .fp8e4m3) (x8 : Vec Ideal S1x1024 .f32)
  (a0 : (⟨3, ![24, 2048, 1024]⟩ : Shape).Idx → EReal) (a1 : (⟨2, ![24, 2048]⟩ : Shape).Idx → EReal)
  (a2 : (⟨3, ![24, 2048, 2816]⟩ : Shape).Idx → EReal) (a3 : (⟨2, ![24, 2048]⟩ : Shape).Idx → EReal)
  (a4 : (⟨3, ![24, 2048, 352]⟩ : Shape).Idx → BitVec 8) (a5 : (⟨2, ![1024, 2816]⟩ : Shape).Idx → EReal)
  (a6 : (⟨1, ![1024]⟩ : Shape).Idx → EReal) (a7 : (⟨2, ![2816, 1024]⟩ : Shape).Idx → EReal)
  (a8 : (⟨1, ![1024]⟩ : Shape).Idx → EReal)

/-- The loaded arrays read as the argument arrays do. -/
structure Reads : Prop where
  r0 : ∀ n d, x0 (ix2 n d) = Spec.row a0 n d
  r1 : ∀ n, x1 (ix2 n 0) = Spec.tok a1 n
  r2 : ∀ n f, x2 (ix2 n f) = Spec.row a2 n f
  r3 : ∀ n, x3 (ix2 n 0) = Spec.tok a3 n
  r4 : ∀ (n : Fin 49152) (f : Fin 2816), x4 (ix2 n f) ≠ 0#32 ↔ (Spec.row a4 n ⟨f.val / 8, by omega⟩).getLsbD (f.val % 8) = true
  r5 : ∀ d f, x5 (ix2 d f) = a5 (ix2 d f)
  r6 : ∀ d, x6 (ix2 0 d) = a6 (ix1 d)
  r7 : ∀ f d, x7 (ix2 f d) = a7 (ix2 f d)
  r8 : ∀ d, x8 (ix2 0 d) = a8 (ix1 d)

variable {x0 x1 x2 x3 x4 x5 x6 x7 x8 a0 a1 a2 a3 a4 a5 a6 a7 a8}
variable (h : Reads x0 x1 x2 x3 x4 x5 x6 x7 x8 a0 a1 a2 a3 a4 a5 a6 a7 a8)

include h

theorem grad_spec (n : Fin 49152) : (fun f : Fin 2816 => k0_pay2 (F := Ideal) x7 x8 x0 x4 x1 (ix2 n f)) = Spec.grad a0 a1 a4 a7 a8 n := by
  funext f
  rw [grad_at]
  unfold Spec.grad Row.dh
  have hs : ∑ d : Fin 1024, x0 (ix2 n d) * (x7 (ix2 f d) * x8 (ix2 0 d)) = ∑ d : Fin 1024, Spec.row a0 n d * Spec.w2 a7 a8 f d :=
    Finset.sum_congr rfl fun d _ => by rw [h.r0, h.r7, h.r8]; rfl
  rw [hs, h.r1]
  by_cases hb : x4 (ix2 n f) ≠ 0#32
  · rw [if_pos hb, if_pos ((h.r4 n f).mp hb)]
  · rw [if_neg hb, if_neg fun e => hb ((h.r4 n f).mpr e)]

theorem scale_spec (n : Fin 49152) :
    k0_pay7 (F := Ideal) (k0_pay4 (F := Ideal) x7 x8 x0 x4 x1) (k0_pay5 (F := Ideal) x7 x8 x0 x4 x1) (ix1 n)
      = Spec.scale a0 a1 a4 a7 a8 n := by
  rw [scale_at, grad_spec h]
  rfl

theorem code_spec (n : Fin 49152) (f : Fin 2816) :
    k0_pay8 (F := Ideal) (k0_pay2 (F := Ideal) x7 x8 x0 x4 x1) (k0_pay4 (F := Ideal) x7 x8 x0 x4 x1) (k0_pay5 (F := Ideal) x7 x8 x0 x4 x1) (ix2 n f)
      = Spec.code a0 a1 a4 a7 a8 n f := by
  have hf := congrFun (grad_spec h n) f
  rw [code_at, grad_spec h]
  exact congrArg (fun v => Row.code v (Row.inv (Row.peak (Spec.grad a0 a1 a4 a7 a8 n)))) hf

theorem laid_spec (q : Fin 96) (p : Fin 512) :
    k0_pay9 (F := Ideal) (k0_pay4 (F := Ideal) x7 x8 x0 x4 x1) (k0_pay5 (F := Ideal) x7 x8 x0 x4 x1) (ix3 q 0 p)
      = Spec.scale a0 a1 a4 a7 a8 ⟨512 * q.val + p.val, by omega⟩ := by
  rw [laid_of, scale_spec h]

theorem dx_spec (n : Fin 49152) (d : Fin 1024) :
    k0_pay10 (F := Ideal) (k0_pay2 (F := Ideal) x7 x8 x0 x4 x1) (k0_pay4 (F := Ideal) x7 x8 x0 x4 x1) (k0_pay5 (F := Ideal) x7 x8 x0 x4 x1) x5 x6 (ix2 n d)
      = Spec.dx a0 a1 a4 a5 a6 a7 a8 n d := by
  rw [dx_of, scale_spec h, h.r6, Finset.sum_congr rfl fun f _ => by rw [code_spec h n f, h.r5]]
  rfl

theorem dw_spec (f : Fin 2816) (d : Fin 1024) :
    k0_pay1 (F := Ideal) (k0_pay11 x2) (k0_pay12 x3) x0 x1 (ix2 f d) = Spec.dw a0 a1 a2 a3 f d := by
  rw [dw_of]
  exact Finset.sum_congr rfl fun n _ => by rw [h.r2, h.r3, h.r0, h.r1]; rfl

end Cert.ReferenceIdeal.Block
-- ==== Proof.RefEntry.lean ====
/-
  WHAT THE REFERENCE READS: its one point holds whole arrays; every entry of each, by the argument array it comes from.
-/
module

public import proofs.«01_k».proof.Proof.Spec
public import proofs.«01_k».proof.Proof.Gen.ReferenceIdeal.Frame
public import Idealize.ShloMosaic.Lib.Pipeline.ValueKit

@[expose] public section

namespace Cert.ReferenceIdeal.Block

open Idealize.ShloMosaic Idealize.ShloMosaic.TcCoe Idealize.SL.Sem Cert.ReferenceIdeal.Gen

variable (m : (ℓ : Loc nD τ sig) → Buf (Elt Ideal) ℓ) (c : Dev nD) (t : Fin cfg0.N)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0])

theorem read_0 (n : Fin 49152) (d : Fin 1024) :
    iblk m c 0 t (ix2 n d) = Spec.row (m ((c : Thread nD τ).loc main_arg0)) n d := by
  unfold Spec.row
  blk_ext! [iblk, V, idx t]

theorem read_1 (n : Fin 49152) : iblk m c 1 t (ix2 n 0) = Spec.tok (m ((c : Thread nD τ).loc main_arg1)) n := by
  unfold Spec.tok
  blk_ext! [iblk, V, idx t]

theorem read_2 (n : Fin 49152) (f : Fin 2816) :
    iblk m c 2 t (ix2 n f) = Spec.row (m ((c : Thread nD τ).loc main_arg2)) n f := by
  unfold Spec.row
  blk_ext! [iblk, V, idx t]

theorem read_3 (n : Fin 49152) : iblk m c 3 t (ix2 n 0) = Spec.tok (m ((c : Thread nD τ).loc main_arg3)) n := by
  unfold Spec.tok
  blk_ext! [iblk, V, idx t]

theorem read_5 (d : Fin 1024) (f : Fin 2816) :
    iblk m c 5 t (ix2 d f) = m ((c : Thread nD τ).loc main_arg5) (ix2 d f) := by
  blk_ext! [iblk, V, idx t]

theorem read_6 (d : Fin 1024) : iblk m c 6 t (ix2 0 d) = m ((c : Thread nD τ).loc main_arg6) (ix1 d) := by
  blk_ext! [iblk, V, idx t]

theorem read_7 (f : Fin 2816) (d : Fin 1024) :
    iblk m c 7 t (ix2 f d) = m ((c : Thread nD τ).loc main_arg7) (ix2 f d) := by
  blk_ext! [iblk, V, idx t]

theorem read_8 (d : Fin 1024) : iblk m c 8 t (ix2 0 d) = m ((c : Thread nD τ).loc main_arg8) (ix1 d) := by
  blk_ext! [iblk, V, idx t]

theorem whole_4 (n : Fin 49152) (f : Fin 2816) : iblk m c 4 t (ix2 n f) = V m c main_v13 (ix2 n f) := by
  blk_ext! [iblk, V, idx t]

/-- Bit `k` of a byte, as the host's shift and mask spell it. -/
theorem bit_ne (b : BitVec 8) (k : ℕ) (hk : k < 8) :
    IntOp.andi (IntOp.shrsi ArithUnit.host (BitVec.setWidth 32 b) (BitVec.ofNat 32 k)) 1#32 ≠ 0#32 ↔ b.getLsbD k = true := by
  have : ∀ (b : Fin 256) (k : Fin 8), IntOp.andi (IntOp.shrsi ArithUnit.host (BitVec.setWidth 32 (BitVec.ofFin (w := 8) b)) (BitVec.ofNat 32 k.val)) 1#32 ≠ 0#32
      ↔ (BitVec.ofFin (w := 8) b).getLsbD k.val = true := by decide +kernel
  exact this b.toFin ⟨k, hk⟩

theorem bits_4 (n : Fin 49152) (f : Fin 2816) : V m c main_v13 (ix2 n f)
      = IntOp.andi (IntOp.shrsi ArithUnit.host (BitVec.setWidth 32 (Spec.row (m ((c : Thread nD τ).loc main_arg4)) n ⟨f.val / 8, by omega⟩))
          (BitVec.ofNat 32 (f.val % 8))) 1#32 := by
  entry_read
  pointwise
  rfl

theorem read_4 (n : Fin 49152) (f : Fin 2816) : iblk m c 4 t (ix2 n f) ≠ 0#32
      ↔ (Spec.row (m ((c : Thread nD τ).loc main_arg4)) n ⟨f.val / 8, by omega⟩ : BitVec 8).getLsbD (f.val % 8) = true := by
  rw [whole_4, bits_4]
  exact bit_ne _ _ (Nat.mod_lt _ (by decide))

end Cert.ReferenceIdeal.Block
-- ==== Proof.RefResult.lean ====
/-
  THE REFERENCE'S FOUR RESULT ARRAYS, index by index: the `Spec` values of its argument arrays. Its one point writes
  each array whole.
-/
module

public import proofs.«01_k».proof.Proof.RefSpec
public import proofs.«01_k».proof.Proof.RefEntry

@[expose] public section

namespace Cert.ReferenceIdeal.Block

open Idealize.ShloMosaic Idealize.ShloMosaic.TcCoe Idealize.SL.Sem Cert.ReferenceIdeal.Gen

variable (m : (ℓ : Loc nD τ sig) → Buf (Elt Ideal) ℓ) (c : Dev nD)

theorem reads (t : Fin cfg0.N) : Reads (iblk m c 0 t) (iblk m c 1 t) (iblk m c 2 t) (iblk m c 3 t) (iblk m c 4 t) (iblk m c 5 t)
    (iblk m c 6 t) (iblk m c 7 t) (iblk m c 8 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) :=
  ⟨read_0 m c t, read_1 m c t, read_2 m c t, read_3 m c t, read_4 m c t, read_5 m c t, read_6 m c t, read_7 m c t, read_8 m c t⟩

theorem hz2 : (![0, 0] : Fin 2 → ℕ) = fun _ => 0 := by
  funext a; fin_cases a <;> rfl
theorem hz3 : (![0, 0, 0] : Fin 3 → ℕ) = fun _ => 0 := by
  funext a; fin_cases a <;> rfl

section Out
variable (x0 : Vec Ideal S49152x1024 .fp8e5m2) (x1 : Vec Ideal S49152x1 .f32) (x2 : Vec Ideal S49152x2816 .fp8e4m3)
  (x3 : Vec Ideal S49152x1 .f32) (x4 : Vec Ideal S49152x2816 .i32) (x5 : Vec Ideal S1024x2816 .fp8e4m3)
  (x6 : Vec Ideal S1x1024 .f32) (x7 : Vec Ideal S2816x1024 .fp8e4m3) (x8 : Vec Ideal S1x1024 .f32)

theorem out_dx : out0_9 x0 x1 x2 x3 x4 x5 x6 x7 x8
    = k0_pay10 (k0_pay2 x7 x8 x0 x4 x1) (k0_pay4 x7 x8 x0 x4 x1) (k0_pay5 x7 x8 x0 x4 x1) x5 x6 := by
  unfold_out out0_9
  rw [View.canon_unit_zero hz2]
  simp only [View.ld_unit_zero (S := S49152x1024) hz2, View.ld_unit_zero (S := S49152x1) hz2, View.ld_unit_zero (S := S49152x2816) hz2,
    View.ld_unit_zero (S := S1024x2816) hz2, View.ld_unit_zero (S := S2816x1024) hz2, View.ld_unit_zero (S := S1x1024) hz2]

theorem out_dw : out0_10 x0 x1 x2 x3 x4 x5 x6 x7 x8 = k0_pay1 (k0_pay11 x2) (k0_pay12 x3) x0 x1 := by
  unfold_out out0_10
  rw [View.canon_unit_zero hz2]
  simp only [View.ld_unit_zero (S := S49152x1024) hz2, View.ld_unit_zero (S := S49152x1) hz2, View.ld_unit_zero (S := S49152x2816) hz2,
    View.ld_unit_zero (S := S1024x2816) hz2, View.ld_unit_zero (S := S2816x1024) hz2, View.ld_unit_zero (S := S1x1024) hz2]

theorem out_codes : out0_11 x0 x1 x2 x3 x4 x5 x6 x7 x8
    = k0_pay8 (k0_pay2 x7 x8 x0 x4 x1) (k0_pay4 x7 x8 x0 x4 x1) (k0_pay5 x7 x8 x0 x4 x1) := by
  unfold_out out0_11
  rw [View.canon_unit_zero hz2]
  simp only [View.ld_unit_zero (S := S49152x1024) hz2, View.ld_unit_zero (S := S49152x1) hz2, View.ld_unit_zero (S := S49152x2816) hz2,
    View.ld_unit_zero (S := S1024x2816) hz2, View.ld_unit_zero (S := S2816x1024) hz2, View.ld_unit_zero (S := S1x1024) hz2]

theorem out_ds : out0_12 x0 x1 x2 x3 x4 x5 x6 x7 x8
    = k0_pay9 (k0_pay4 x7 x8 x0 x4 x1) (k0_pay5 x7 x8 x0 x4 x1) := by
  unfold_out out0_12
  rw [View.canon_unit_zero hz3]
  simp only [View.ld_unit_zero (S := S49152x1024) hz2, View.ld_unit_zero (S := S49152x1) hz2, View.ld_unit_zero (S := S49152x2816) hz2,
    View.ld_unit_zero (S := S1024x2816) hz2, View.ld_unit_zero (S := S2816x1024) hz2, View.ld_unit_zero (S := S1x1024) hz2]

end Out

/-! ## The final arrays -/

theorem whole_dx : (dats m 0 c).arrAt 9 cfg0.N = (dats m 0 c).after 9 t0_0 :=
  (dats m 0 c).arrAt_eq_of_after_last 9 t0_0 (by decide +kernel) _ fun j => by blk_simp
theorem whole_dw : (dats m 0 c).arrAt 10 cfg0.N = (dats m 0 c).after 10 t0_0 :=
  (dats m 0 c).arrAt_eq_of_after_last 10 t0_0 (by decide +kernel) _ fun j => by blk_simp
theorem whole_codes : (dats m 0 c).arrAt 11 cfg0.N = (dats m 0 c).after 11 t0_0 :=
  (dats m 0 c).arrAt_eq_of_after_last 11 t0_0 (by decide +kernel) _ fun j => by blk_simp
theorem whole_ds : (dats m 0 c).arrAt 12 cfg0.N = (dats m 0 c).after 12 t0_0 :=
  (dats m 0 c).arrAt_eq_of_after_last 12 t0_0 (by decide +kernel) _ fun j => by blk_simp

theorem result_dx (n : Fin 49152) (d : Fin 1024) : (dats m 0 c).arrAt 9 cfg0.N (ix2 n d)
      = Spec.dx (m ((c : Thread nD τ).loc main_arg0)) (m ((c : Thread nD τ).loc main_arg1)) (m ((c : Thread nD τ).loc main_arg4))
          (m ((c : Thread nD τ).loc main_arg5)) (m ((c : Thread nD τ).loc main_arg6)) (m ((c : Thread nD τ).loc main_arg7))
          (m ((c : Thread nD τ).loc main_arg8)) n d := by
  rw [whole_dx, after0_9, out_dx]
  exact dx_spec (reads m c t0_0) n d

theorem result_dw (f : Fin 2816) (d : Fin 1024) : (dats m 0 c).arrAt 10 cfg0.N (ix2 f d)
      = Spec.dw (m ((c : Thread nD τ).loc main_arg0)) (m ((c : Thread nD τ).loc main_arg1)) (m ((c : Thread nD τ).loc main_arg2))
          (m ((c : Thread nD τ).loc main_arg3)) f d := by
  rw [whole_dw, after0_10, out_dw]
  exact dw_spec (reads m c t0_0) f d

theorem result_codes (n : Fin 49152) (f : Fin 2816) : (dats m 0 c).arrAt 11 cfg0.N (ix2 n f)
      = Spec.code (m ((c : Thread nD τ).loc main_arg0)) (m ((c : Thread nD τ).loc main_arg1)) (m ((c : Thread nD τ).loc main_arg4))
          (m ((c : Thread nD τ).loc main_arg7)) (m ((c : Thread nD τ).loc main_arg8)) n f := by
  rw [whole_codes, after0_11, out_codes]
  exact code_spec (reads m c t0_0) n f

theorem result_ds (q : Fin 96) (p : Fin 512) : (dats m 0 c).arrAt 12 cfg0.N (ix3 q 0 p)
      = Spec.scale (m ((c : Thread nD τ).loc main_arg0)) (m ((c : Thread nD τ).loc main_arg1)) (m ((c : Thread nD τ).loc main_arg4))
          (m ((c : Thread nD τ).loc main_arg7)) (m ((c : Thread nD τ).loc main_arg8)) ⟨512 * q.val + p.val, by omega⟩ := by
  rw [whole_ds, after0_12, out_ds]
  exact laid_spec (reads m c t0_0) q p

end Cert.ReferenceIdeal.Block
-- ==== Proof.Meet.lean ====
/-
  THE TWO PROGRAMS MEET: from memories that agree on the arguments, the reference's result arrays are the kernel's.
-/
module

public import proofs.«01_k».proof.Proof.Result
public import proofs.«01_k».proof.Proof.RefResult
public import proofs.«01_k».proof.Proof.Gen.ReferenceIdeal.Value

@[expose] public section

namespace Cert.Meet

open Idealize.ShloMosaic Idealize.SL.Sem

variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))

include h0 h1 h4 h5 h6 h7 h8 in
theorem meet_dx : (Cert.ReferenceIdeal.Gen.dats m' 0 c).arrAt 9 Cert.ReferenceIdeal.cfg0.N = Cert.KernelIdeal.Value.G9 m c := by
  funext y
  obtain ⟨n, d, rfl⟩ : ∃ (n : Fin 49152) (d : Fin 1024), y = ix2 n d := ⟨y 0, y 1, eq_ix2 y⟩
  refine (Cert.ReferenceIdeal.Block.result_dx m' c n d).trans (Eq.trans ?_ (Cert.KernelIdeal.Block.result_dx m c n d).symm)
  rw [h0, h1, h4, h5, h6, h7, h8]

include h0 h1 h2 h3 in
theorem meet_dw : (Cert.ReferenceIdeal.Gen.dats m' 0 c).arrAt 10 Cert.ReferenceIdeal.cfg0.N = Cert.KernelIdeal.Value.G10 m c := by
  funext y
  obtain ⟨f, d, rfl⟩ : ∃ (f : Fin 2816) (d : Fin 1024), y = ix2 f d := ⟨y 0, y 1, eq_ix2 y⟩
  refine (Cert.ReferenceIdeal.Block.result_dw m' c f d).trans (Eq.trans ?_ (Cert.KernelIdeal.Block.result_dw m c f d).symm)
  rw [h0, h1, h2, h3]

include h0 h1 h4 h7 h8 in
theorem meet_codes : (Cert.ReferenceIdeal.Gen.dats m' 0 c).arrAt 11 Cert.ReferenceIdeal.cfg0.N = Cert.KernelIdeal.Value.G11 m c := by
  funext y
  obtain ⟨n, f, rfl⟩ : ∃ (n : Fin 49152) (f : Fin 2816), y = ix2 n f := ⟨y 0, y 1, eq_ix2 y⟩
  refine (Cert.ReferenceIdeal.Block.result_codes m' c n f).trans (Eq.trans ?_ (Cert.KernelIdeal.Block.result_codes m c n f).symm)
  rw [h0, h1, h4, h7, h8]

include h0 h1 h4 h7 h8 in
theorem meet_ds : (Cert.ReferenceIdeal.Gen.dats m' 0 c).arrAt 12 Cert.ReferenceIdeal.cfg0.N = Cert.KernelIdeal.Value.G12 m c := by
  funext y
  obtain ⟨q, z, p, rfl⟩ : ∃ (q : Fin 96) (z : Fin 1) (p : Fin 512), y = ix3 q z p := ⟨y 0, y 1, y 2, eq_ix3 y⟩
  obtain rfl : z = 0 := Subsingleton.elim _ _
  refine (Cert.ReferenceIdeal.Block.result_ds m' c q p).trans (Eq.trans ?_ (Cert.KernelIdeal.Block.result_ds m c q p).symm)
  rw [h0, h1, h4, h7, h8]

end Cert.Meet
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Meet
public import Idealize.ShloMosaic.Adequacy
public import Idealize.ShloMosaic.Init

@[expose] public section

noncomputable section

namespace Cert.Proof

open Idealize.ShloMosaic Idealize.SL.Sem Cert.Kernel

/-- Both programs end with the four arrays that the kernel computes. -/
theorem algebraic (hK : Cert.KernelIdeal.Facts) (hR : Cert.ReferenceIdeal.Facts) :
    algebraic_KernelIdeal_ReferenceIdeal (hKernelIdeal := hK) (hReferenceIdeal := hR) := by
  intro m g m' g' _ h
  refine ⟨Cert.KernelIdeal.Value.G9 m, Cert.KernelIdeal.Value.G10 m, Cert.KernelIdeal.Value.G11 m, Cert.KernelIdeal.Value.G12 m,
    Cert.KernelIdeal.Value.run m g, ?_⟩
  refine (θ_run _ _ _).mono (fun r hr c => ?_) (Cert.ReferenceIdeal.Value.run_blocks m' g')
  obtain ⟨h0, h1, h2, h3, h4, h5, h6, h7, h8⟩ := h c
  obtain ⟨r0, r1, r2, r3, kept⟩ := hr c
  exact ⟨r0.trans (Cert.Meet.meet_dx m m' c h0 h1 h4 h5 h6 h7 h8), r1.trans (Cert.Meet.meet_dw m m' c h0 h1 h2 h3),
    r2.trans (Cert.Meet.meet_codes m m' c h0 h1 h4 h7 h8), r3.trans (Cert.Meet.meet_ds m m' c h0 h1 h4 h7 h8), kept⟩

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.ReferenceIdeal.Gen.frame m g, trivial, algebraic _ _⟩

end Cert.Proof

end
